-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S1048576 : Shape := ⟨1, ![1048576]⟩
abbrev S1000 : Shape := ⟨1, ![1000]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel

variable [Facts]

def fn {F : FTy → Type} [FloatOps F] (main_arg0 : FVec F S1048576 .f32) (main_arg1 : IVec S1048576 32) (main_arg2 : FVec F S1000 .f32) : IVec S_ 1 :=
  let main_c : IVec S_ 32 := constantI S_ 32 0#32
  let main_v0 : IVec S1048576 32 := broadcastInDim S1048576 ![] bcast_S_S1048576 main_c
  let main_v1 : IVec S1048576 1 := cmpi .sge main_arg1 main_v0
  let main_c_0 : IVec S_ 32 := constantI S_ 32 1000#32
  let main_v2 : IVec S1048576 32 := broadcastInDim S1048576 ![] bcast_S_S1048576 main_c_0
  let main_v3 : IVec S1048576 1 := cmpi .slt main_arg1 main_v2
  let main_v4 : IVec S1048576 1 := andi main_v1 main_v3
  let main_c_1 : IVec S_ 1 := constantI S_ 1 1#1
  let main_v5 : IVec S_ 1 := (fun x v => Host.reduce IntOp.andi x v reducesTo_S1048576_S_d0 h_S_) main_v4 main_c_1
  main_v5
-- ==== Kernel.lean ====
abbrev S1048576 : Shape := ⟨1, ![1048576]⟩
abbrev S1000 : Shape := ⟨1, ![1000]⟩
abbrev S1024 : Shape := ⟨1, ![1024]⟩
abbrev S2x8192 : Shape := ⟨2, ![2, 8192]⟩
abbrev S32768 : Shape := ⟨1, ![32768]⟩
abbrev S_ : Shape := ⟨0, ![]⟩
abbrev S1x8192 : Shape := ⟨2, ![1, 8192]⟩
abbrev S8192 : Shape := ⟨1, ![8192]⟩
abbrev S16 : Shape := ⟨1, ![16]⟩
abbrev S1x16 : Shape := ⟨2, ![1, 16]⟩

abbrev nBuf : Table → Nat
  | .hbm => 4
  | .local .scVector .vmem => 5
  | _ => 0

abbrev bufTy : (tb : Table) → Fin (nBuf tb) → BufTy
  | .hbm, ⟨0, _⟩ => ⟨S1048576, .f32⟩
  | .hbm, ⟨1, _⟩ => ⟨S1048576, .i32⟩
  | .hbm, ⟨2, _⟩ => ⟨S1000, .f32⟩
  | .hbm, ⟨3, _⟩ => ⟨S1048576, .f32⟩
  | .local .scVector .vmem, ⟨0, _⟩ => ⟨S1024, .f32⟩
  | .local .scVector .vmem, ⟨1, _⟩ => ⟨S1024, .f32⟩
  | .local .scVector .vmem, ⟨2, _⟩ => ⟨S2x8192, .i32⟩
  | .local .scVector .vmem, ⟨3, _⟩ => ⟨S2x8192, .f32⟩
  | .local .scVector .vmem, ⟨4, _⟩ => ⟨S32768, .f32⟩
  | _, _ => ⟨S1048576, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_1 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v5 : BitVec 32 := Scalar.addi v2 c0_i32_1
  ![v5.toNat]
@[reducible] def k0_t1_loop : Scf.Loop 32 :=
  let c0_i32_10 : BitVec 32 := 0#32
  let c64_i32 : BitVec 32 := 64#32
  let v20 : BitVec 32 := Scalar.addi c0_i32_10 c64_i32
  let c1_i32 : BitVec 32 := 1#32
  ⟨c0_i32_10, v20, c1_i32⟩
def k0_off2 (k0_t1 : Fin k0_t1_loop.trips) : Fin 1 → Nat :=
  let c0_i32_89 : BitVec 32 := 0#32
  let c0_i32_10 : BitVec 32 := 0#32
  let c1_i32 : BitVec 32 := 1#32
  let arg15 : BitVec 32 := Scf.iv c0_i32_10 c1_i32 k0_t1
  let c16_i32 : BitVec 32 := 16#32
  let v148 : BitVec 32 := Scalar.muli arg15 c16_i32
  let v149 : BitVec 32 := Scalar.addi c0_i32_89 v148
  let v150 : Index := Scalar.indexCast v149
  ![v150.toNat]
@[reducible] def k0_t2_loop : Scf.Loop 32 :=
  let c0_i32_24 : BitVec 32 := 0#32
  let c512_i32 : BitVec 32 := 512#32
  let v46 : BitVec 32 := Scalar.addi c0_i32_24 c512_i32
  let c1_i32_25 : BitVec 32 := 1#32
  ⟨c0_i32_24, v46, c1_i32_25⟩
def k0_off3 (k0_t2 : Fin k0_t2_loop.trips) : Fin 2 → Nat :=
  let c0_i32_90 : BitVec 32 := 0#32
  let v150 : Index := Scalar.indexCast c0_i32_90
  let c0_i32_89 : BitVec 32 := 0#32
  let c0_i32_24 : BitVec 32 := 0#32
  let c1_i32_25 : BitVec 32 := 1#32
  let arg15 : BitVec 32 := Scf.iv c0_i32_24 c1_i32_25 k0_t2
  let c16_i32 : BitVec 32 := 16#32
  let v148 : BitVec 32 := Scalar.muli arg15 c16_i32
  let v149 : BitVec 32 := Scalar.addi c0_i32_89 v148
  let v151 : Index := Scalar.indexCast v149
  ![0, v151.toNat]

def k0_chk1 (v152 : IVec S16 32) : Prop :=
  (∀ a x, ((![v152] : Fin 1 → IVec S16 32) a x).toNat < S1024.size a)
theorem k0_idx1_inb : ∀ (v152 : IVec S16 32) (k0_hw1 : k0_chk1 v152), ∀ a x, ((![v152] : Fin 1 → IVec S16 32) a x).toNat < S1024.size a := fun v152 k0_hw1 => k0_hw1
def k0_off4 (k0_t2 : Fin k0_t2_loop.trips) : Fin 2 → Nat :=
  let c0_i32_91 : BitVec 32 := 0#32
  let v154 : Index := Scalar.indexCast c0_i32_91
  let c0_i32_89 : BitVec 32 := 0#32
  let c0_i32_24 : BitVec 32 := 0#32
  let c1_i32_25 : BitVec 32 := 1#32
  let arg15 : BitVec 32 := Scf.iv c0_i32_24 c1_i32_25 k0_t2
  let c16_i32 : BitVec 32 := 16#32
  let v148 : BitVec 32 := Scalar.muli arg15 c16_i32
  let v149 : BitVec 32 := Scalar.addi c0_i32_89 v148
  let v155 : Index := Scalar.indexCast v149
  ![0, v155.toNat]
def k0_off5 (k0_t2 : Fin k0_t2_loop.trips) : Fin 1 → Nat :=
  let c0_i32_93 : BitVec 32 := 0#32
  let c0_i32_89 : BitVec 32 := 0#32
  let c0_i32_24 : BitVec 32 := 0#32
  let c1_i32_25 : BitVec 32 := 1#32
  let arg15 : BitVec 32 := Scf.iv c0_i32_24 c1_i32_25 k0_t2
  let c16_i32 : BitVec 32 := 16#32
  let v148 : BitVec 32 := Scalar.muli arg15 c16_i32
  let v149 : BitVec 32 := Scalar.addi c0_i32_89 v148
  let v161 : BitVec 32 := Scalar.addi c0_i32_93 v149
  let v162 : Index := Scalar.indexCast v161
  ![v162.toNat]
@[reducible] def k0_t3_loop : Scf.Loop 32 :=
  let c0_i32_42 : BitVec 32 := 0#32
  let c512_i32_43 : BitVec 32 := 512#32
  let v77 : BitVec 32 := Scalar.addi c0_i32_42 c512_i32_43
  let c1_i32_44 : BitVec 32 := 1#32
  ⟨c0_i32_42, v77, c1_i32_44⟩
def k0_off6 (k0_t3 : Fin k0_t3_loop.trips) : Fin 2 → Nat :=
  let c1_i32_90 : BitVec 32 := 1#32
  let v150 : Index := Scalar.indexCast c1_i32_90
  let c0_i32_89 : BitVec 32 := 0#32
  let c0_i32_42 : BitVec 32 := 0#32
  let c1_i32_44 : BitVec 32 := 1#32
  let arg15 : BitVec 32 := Scf.iv c0_i32_42 c1_i32_44 k0_t3
  let c16_i32 : BitVec 32 := 16#32
  let v148 : BitVec 32 := Scalar.muli arg15 c16_i32
  let v149 : BitVec 32 := Scalar.addi c0_i32_89 v148
  let v151 : Index := Scalar.indexCast v149
  ![1, v151.toNat]

def k0_chk2 (v152 : IVec S16 32) : Prop :=
  (∀ a x, ((![v152] : Fin 1 → IVec S16 32) a x).toNat < S1024.size a)
theorem k0_idx2_inb : ∀ (v152 : IVec S16 32) (k0_hw2 : k0_chk2 v152), ∀ a x, ((![v152] : Fin 1 → IVec S16 32) a x).toNat < S1024.size a := fun v152 k0_hw2 => k0_hw2
def k0_off7 (k0_t3 : Fin k0_t3_loop.trips) : Fin 2 → Nat :=
  let c1_i32_91 : BitVec 32 := 1#32
  let v154 : Index := Scalar.indexCast c1_i32_91
  let c0_i32_89 : BitVec 32 := 0#32
  let c0_i32_42 : BitVec 32 := 0#32
  let c1_i32_44 : BitVec 32 := 1#32
  let arg15 : BitVec 32 := Scf.iv c0_i32_42 c1_i32_44 k0_t3
  let c16_i32 : BitVec 32 := 16#32
  let v148 : BitVec 32 := Scalar.muli arg15 c16_i32
  let v149 : BitVec 32 := Scalar.addi c0_i32_89 v148
  let v155 : Index := Scalar.indexCast v149
  ![1, v155.toNat]
def k0_off8 (k0_t3 : Fin k0_t3_loop.trips) : Fin 1 → Nat :=
  let c8192_i32_93 : BitVec 32 := 8192#32
  let c0_i32_89 : BitVec 32 := 0#32
  let c0_i32_42 : BitVec 32 := 0#32
  let c1_i32_44 : BitVec 32 := 1#32
  let arg15 : BitVec 32 := Scf.iv c0_i32_42 c1_i32_44 k0_t3
  let c16_i32 : BitVec 32 := 16#32
  let v148 : BitVec 32 := Scalar.muli arg15 c16_i32
  let v149 : BitVec 32 := Scalar.addi c0_i32_89 v148
  let v161 : BitVec 32 := Scalar.addi c8192_i32_93 v149
  let v162 : Index := Scalar.indexCast v161
  ![v162.toNat]
@[reducible] def k0_t4_loop : Scf.Loop 32 :=
  let c0_i32_61 : BitVec 32 := 0#32
  let c512_i32_62 : BitVec 32 := 512#32
  let v108 : BitVec 32 := Scalar.addi c0_i32_61 c512_i32_62
  let c1_i32_63 : BitVec 32 := 1#32
  ⟨c0_i32_61, v108, c1_i32_63⟩
def k0_off9 (k0_t4 : Fin k0_t4_loop.trips) : Fin 2 → Nat :=
  let c0_i32_90 : BitVec 32 := 0#32
  let v150 : Index := Scalar.indexCast c0_i32_90
  let c0_i32_89 : BitVec 32 := 0#32
  let c0_i32_61 : BitVec 32 := 0#32
  let c1_i32_63 : BitVec 32 := 1#32
  let arg15 : BitVec 32 := Scf.iv c0_i32_61 c1_i32_63 k0_t4
  let c16_i32 : BitVec 32 := 16#32
  let v148 : BitVec 32 := Scalar.muli arg15 c16_i32
  let v149 : BitVec 32 := Scalar.addi c0_i32_89 v148
  let v151 : Index := Scalar.indexCast v149
  ![0, v151.toNat]

def k0_chk3 (v152 : IVec S16 32) : Prop :=
  (∀ a x, ((![v152] : Fin 1 → IVec S16 32) a x).toNat < S1024.size a)
theorem k0_idx3_inb : ∀ (v152 : IVec S16 32) (k0_hw3 : k0_chk3 v152), ∀ a x, ((![v152] : Fin 1 → IVec S16 32) a x).toNat < S1024.size a := fun v152 k0_hw3 => k0_hw3
def k0_off10 (k0_t4 : Fin k0_t4_loop.trips) : Fin 2 → Nat :=
  let c0_i32_91 : BitVec 32 := 0#32
  let v154 : Index := Scalar.indexCast c0_i32_91
  let c0_i32_89 : BitVec 32 := 0#32
  let c0_i32_61 : BitVec 32 := 0#32
  let c1_i32_63 : BitVec 32 := 1#32
  let arg15 : BitVec 32 := Scf.iv c0_i32_61 c1_i32_63 k0_t4
  let c16_i32 : BitVec 32 := 16#32
  let v148 : BitVec 32 := Scalar.muli arg15 c16_i32
  let v149 : BitVec 32 := Scalar.addi c0_i32_89 v148
  let v155 : Index := Scalar.indexCast v149
  ![0, v155.toNat]
def k0_off11 (k0_t4 : Fin k0_t4_loop.trips) : Fin 1 → Nat :=
  let c16384_i32_93 : BitVec 32 := 16384#32
  let c0_i32_89 : BitVec 32 := 0#32
  let c0_i32_61 : BitVec 32 := 0#32
  let c1_i32_63 : BitVec 32 := 1#32
  let arg15 : BitVec 32 := Scf.iv c0_i32_61 c1_i32_63 k0_t4
  let c16_i32 : BitVec 32 := 16#32
  let v148 : BitVec 32 := Scalar.muli arg15 c16_i32
  let v149 : BitVec 32 := Scalar.addi c0_i32_89 v148
  let v161 : BitVec 32 := Scalar.addi c16384_i32_93 v149
  let v162 : Index := Scalar.indexCast v161
  ![v162.toNat]
@[reducible] def k0_t5_loop : Scf.Loop 32 :=
  let c0_i32_74 : BitVec 32 := 0#32
  let c512_i32_75 : BitVec 32 := 512#32
  let v126 : BitVec 32 := Scalar.addi c0_i32_74 c512_i32_75
  let c1_i32_76 : BitVec 32 := 1#32
  ⟨c0_i32_74, v126, c1_i32_76⟩
def k0_off12 (k0_t5 : Fin k0_t5_loop.trips) : Fin 2 → Nat :=
  let c1_i32_90 : BitVec 32 := 1#32
  let v150 : Index := Scalar.indexCast c1_i32_90
  let c0_i32_89 : BitVec 32 := 0#32
  let c0_i32_74 : BitVec 32 := 0#32
  let c1_i32_76 : BitVec 32 := 1#32
  let arg15 : BitVec 32 := Scf.iv c0_i32_74 c1_i32_76 k0_t5
  let c16_i32 : BitVec 32 := 16#32
  let v148 : BitVec 32 := Scalar.muli arg15 c16_i32
  let v149 : BitVec 32 := Scalar.addi c0_i32_89 v148
  let v151 : Index := Scalar.indexCast v149
  ![1, v151.toNat]

def k0_chk4 (v152 : IVec S16 32) : Prop :=
  (∀ a x, ((![v152] : Fin 1 → IVec S16 32) a x).toNat < S1024.size a)
theorem k0_idx4_inb : ∀ (v152 : IVec S16 32) (k0_hw4 : k0_chk4 v152), ∀ a x, ((![v152] : Fin 1 → IVec S16 32) a x).toNat < S1024.size a := fun v152 k0_hw4 => k0_hw4
def k0_off13 (k0_t5 : Fin k0_t5_loop.trips) : Fin 2 → Nat :=
  let c1_i32_91 : BitVec 32 := 1#32
  let v154 : Index := Scalar.indexCast c1_i32_91
  let c0_i32_89 : BitVec 32 := 0#32
  let c0_i32_74 : BitVec 32 := 0#32
  let c1_i32_76 : BitVec 32 := 1#32
  let arg15 : BitVec 32 := Scf.iv c0_i32_74 c1_i32_76 k0_t5
  let c16_i32 : BitVec 32 := 16#32
  let v148 : BitVec 32 := Scalar.muli arg15 c16_i32
  let v149 : BitVec 32 := Scalar.addi c0_i32_89 v148
  let v155 : Index := Scalar.indexCast v149
  ![1, v155.toNat]
def k0_off14 (k0_t5 : Fin k0_t5_loop.trips) : Fin 1 → Nat :=
  let c24576_i32_93 : BitVec 32 := 24576#32
  let c0_i32_89 : BitVec 32 := 0#32
  let c0_i32_74 : BitVec 32 := 0#32
  let c1_i32_76 : BitVec 32 := 1#32
  let arg15 : BitVec 32 := Scf.iv c0_i32_74 c1_i32_76 k0_t5
  let c16_i32 : BitVec 32 := 16#32
  let v148 : BitVec 32 := Scalar.muli arg15 c16_i32
  let v149 : BitVec 32 := Scalar.addi c0_i32_89 v148
  let v161 : BitVec 32 := Scalar.addi c24576_i32_93 v149
  let v162 : Index := Scalar.indexCast v161
  ![v162.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1048576 : Shape := ⟨1, ![1048576]⟩
abbrev S1000 : Shape := ⟨1, ![1000]⟩
abbrev S_ : Shape := ⟨0, ![]⟩
abbrev S1048576x1 : Shape := ⟨2, ![1048576, 1]⟩
abbrev S1 : Shape := ⟨1, ![1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S1048576, .i32⟩
  | .hbm, ⟨2, _⟩ => ⟨S1000, .f32⟩
  | .hbm, ⟨3, _⟩ => ⟨S_, .i32⟩
  | .hbm, ⟨4, _⟩ => ⟨S1048576, .i32⟩
  | .hbm, ⟨5, _⟩ => ⟨S1048576, .i1⟩
  | .hbm, ⟨6, _⟩ => ⟨S_, .i32⟩
  | .hbm, ⟨7, _⟩ => ⟨S1048576, .i32⟩
  | .hbm, ⟨8, _⟩ => ⟨S1048576, .i32⟩
  | .hbm, ⟨9, _⟩ => ⟨S1048576, .i32⟩
  | .hbm, ⟨10, _⟩ => ⟨S1048576x1, .i32⟩
  | .hbm, ⟨11, _⟩ => ⟨S1, .i32⟩
  | .hbm, ⟨12, _⟩ => ⟨S_, .i32⟩
  | .hbm, ⟨13, _⟩ => ⟨S1048576x1, .i32⟩
  | .hbm, ⟨14, _⟩ => ⟨S1048576x1, .i1⟩
  | .hbm, ⟨15, _⟩ => ⟨S1x1, .i32⟩
  | .hbm, ⟨16, _⟩ => ⟨S1048576x1, .i32⟩
  | .hbm, ⟨17, _⟩ => ⟨S1048576x1, .i1⟩
  | .hbm, ⟨18, _⟩ => ⟨S1048576x1, .i1⟩
  | .hbm, ⟨19, _⟩ => ⟨S_, .i1⟩
  | .hbm, ⟨20, _⟩ => ⟨S1048576, .i1⟩
  | .hbm, ⟨21, _⟩ => ⟨S1048576, .f32⟩
  | .hbm, ⟨22, _⟩ => ⟨S_, .f32⟩
  | .hbm, ⟨23, _⟩ => ⟨S1048576, .f32⟩
  | .hbm, ⟨24, _⟩ => ⟨S1048576, .f32⟩
  | .hbm, ⟨25, _⟩ => ⟨S_, .f32⟩
  | .hbm, ⟨26, _⟩ => ⟨S1048576, .f32⟩
  | .hbm, ⟨27, _⟩ => ⟨S1048576, .f32⟩
  | .hbm, ⟨28, _⟩ => ⟨S1048576, .f32⟩
  | .hbm, ⟨29, _⟩ => ⟨S_, .f32⟩
  | .hbm, ⟨30, _⟩ => ⟨S1048576, .f32⟩
  | .hbm, ⟨31, _⟩ => ⟨S1048576, .f32⟩
  | .hbm, ⟨32, _⟩ => ⟨S1048576, .i1⟩
  | .hbm, ⟨33, _⟩ => ⟨S1048576, .f32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst_0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩

abbrev nD : Nat := 1
abbrev τ : Topo := Topo.v7x

variable {F : FTy → Type} [FloatOps F]
-- ==== Proof.Setup.lean ====
/-
  The setting of the kernel's proof: the program as the launch theorem sees it, the resource algebra, the memrefs
  the vector subcores address, and the geometry of the pieces they work on. Subcore `L` of the 2 × 16 grid works on
  block `L` of the 1048576 elements, 32768 of them, in four chunks of 8192; a chunk's labels and confidences arrive in
  one of two rows of the staging buffers and its results leave from one of four chunks of the output buffer.
-/
module

public import proofs.«01_k».proof.Defs
public import Idealize.ShloMosaic.Lib.SparseCore.Quiescent
public import Idealize.ShloMosaic.Lib.SparseCore.Ops
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Mask

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch theorem's static facts about the semaphores and the buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, the scratches and their pieces -/

/-- Confidences, labels, class accuracies (the arguments) and the mask (the result), as locations of device `d`. -/
abbrev cLoc (d : Dev nD) : Loc nD τ sig := (SparseCore.T d).loc main_arg0
abbrev lLoc (d : Dev nD) : Loc nD τ sig := (SparseCore.T d).loc main_arg1
abbrev aLoc (d : Dev nD) : Loc nD τ sig := (SparseCore.T d).loc main_arg2
abbrev oLoc (d : Dev nD) : Loc nD τ sig := (SparseCore.T d).loc main_v0

abbrev cW : Memref sig .scVector .hbm S1048576 .f32 := Memref.whole main_arg0_scv
abbrev lW : Memref sig .scVector .hbm S1048576 .i32 := Memref.whole main_arg1_scv
abbrev aW : Memref sig .scVector .hbm S1000 .f32 := Memref.whole main_arg2_scv
abbrev oW : Memref sig .scVector .hbm S1048576 .f32 := Memref.whole main_v0_scv
/-- A subcore's scratches: class accuracies, thresholds, two rows of labels, two rows of confidences, results. -/
abbrev sA : Memref sig .scVector .vmem S1024 .f32 := Memref.whole cc0_scratch0
abbrev sT : Memref sig .scVector .vmem S1024 .f32 := Memref.whole cc0_scratch1
abbrev sL : Memref sig .scVector .vmem S2x8192 .i32 := Memref.whole cc0_scratch2
abbrev sC : Memref sig .scVector .vmem S2x8192 .f32 := Memref.whole cc0_scratch3
abbrev sO : Memref sig .scVector .vmem S32768 .f32 := Memref.whole cc0_scratch4

theorem row_inb (b : Fin 2) : ∀ a, (![b.val, 0] : Fin 2 → Nat) a + S1x8192.size a ≤ S2x8192.size a := by
  revert b; decide
theorem chunk_inb (r : Fin 4) : ∀ a, (![8192 * r.val] : Fin 1 → Nat) a + S8192.size a ≤ S32768.size a := by
  revert r; decide

/-- Row `b` of the label scratch and of the confidence scratch. -/
abbrev rowL (b : Fin 2) : Memref sig .scVector .vmem S8192 .i32 :=
  (sL.slice (Rect.unit (s := S2x8192) ![b.val, 0] S1x8192.size (row_inb b)) (fun _ => rfl)).squeeze S8192 squeezes_S1x8192_S8192
abbrev rowC (b : Fin 2) : Memref sig .scVector .vmem S8192 .f32 :=
  (sC.slice (Rect.unit (s := S2x8192) ![b.val, 0] S1x8192.size (row_inb b)) (fun _ => rfl)).squeeze S8192 squeezes_S1x8192_S8192
/-- Chunk `r` of the result scratch. -/
abbrev chO (r : Fin 4) : Memref sig .scVector .vmem S8192 .f32 :=
  sO.slice (Rect.unit (s := S32768) ![8192 * r.val] S8192.size (chunk_inb r)) (fun _ => rfl)

/-- Chunk `r` of subcore `L`'s block, as a rectangle of the arrays. -/
abbrev rH (L : grid0.Coords) (r : Fin 4) : Rect S1048576 :=
  Rect.unit (s := S1048576) (k0_off1 L (BitVec.ofNat 32 (8192 * r.val))) S8192.size (k0_off1_inb L r)
abbrev hL (L : grid0.Coords) (r : Fin 4) : Memref sig .scVector .hbm S8192 .i32 := lW.slice (rH L r) (fun _ => rfl)
abbrev hC (L : grid0.Coords) (r : Fin 4) : Memref sig .scVector .hbm S8192 .f32 := cW.slice (rH L r) (fun _ => rfl)
abbrev hO (L : grid0.Coords) (r : Fin 4) : Memref sig .scVector .hbm S8192 .f32 := oW.slice (rH L r) (fun _ => rfl)

/-! ## Indices -/

/-- Index `n` of a rank-one array. -/
def i1 {N : ℕ} (n : ℕ) (h : n < N) : (⟨1, ![N]⟩ : Shape).Idx := fun a => ⟨n, by rw [Subsingleton.elim a 0]; exact h⟩
/-- Index `n` of row `b` of a staging buffer. -/
def i2 (b : Fin 2) (n : ℕ) (h : n < 8192) : S2x8192.Idx := fun a => match a with
  | 0 => b
  | 1 => ⟨n, h⟩

theorem i1_val {N : ℕ} (n : ℕ) (h : n < N) : (i1 n h 0).val = n := rfl
theorem i1_eta {N : ℕ} (y : (⟨1, ![N]⟩ : Shape).Idx) : i1 (y 0).val (y 0).isLt = y := by
  funext a; rw [Subsingleton.elim a 0]; rfl
theorem i1_ext {N : ℕ} {y z : (⟨1, ![N]⟩ : Shape).Idx} (h : (y 0).val = (z 0).val) : y = z := by
  funext a; rw [Subsingleton.elim a 0]; exact Fin.ext h
theorem i2_ext {y z : S2x8192.Idx} (h0 : (y 0).val = (z 0).val) (h1 : (y 1).val = (z 1).val) : y = z := by
  funext a; match a with
  | 0 => exact Fin.ext h0
  | 1 => exact Fin.ext h1

/-- Where subcore `L`'s block begins. -/
def base (L : grid0.Coords) : ℕ := 65536 * (L 1).val + 32768 * (L 0).val
theorem base_le (L : grid0.Coords) : base L + 32768 ≤ 1048576 := by
  have h0 : (L 0).val < 2 := (L 0).isLt
  have h1 : (L 1).val < 16 := (L 1).isLt
  unfold base; omega

theorem off_eq (L : grid0.Coords) (r : Fin 4) : k0_off1 L (BitVec.ofNat 32 (8192 * r.val)) = ![base L + 8192 * r.val] := k0_off1_eq L r

/-- Element `n` of chunk `r` of subcore `L`'s block. -/
def gix (L : grid0.Coords) (r : Fin 4) (n : ℕ) (h : n < 8192) : S1048576.Idx :=
  i1 (base L + 8192 * r.val + n) (by have := base_le L; have := r.isLt; omega)

/-! ## The pieces: their elements and their placements -/

theorem emb_rowL (b : Fin 2) (x : S8192.Idx) : (rowL b).view.emb x = i2 b (x 0).val (x 0).isLt := by
  show (Rect.unit (s := S2x8192) ![b.val, 0] S1x8192.size (row_inb b)).emb (Shape.reshapeEquiv _ x) = _
  rw [Shape.reshapeEquiv_cons_one]
  refine i2_ext ?_ ?_
  · show b.val + 1 * 0 = b.val; omega
  · show 0 + 1 * (x 0).val = (x 0).val; omega
theorem emb_rowC (b : Fin 2) (x : S8192.Idx) : (rowC b).view.emb x = i2 b (x 0).val (x 0).isLt := emb_rowL b x
theorem emb_chO (r : Fin 4) (x : S8192.Idx) : (((chO r).view.emb x : S32768.Idx) 0).val = 8192 * r.val + (x 0).val := by
  show 8192 * r.val + 1 * (x 0).val = _; omega
theorem emb_hL (L : grid0.Coords) (r : Fin 4) (x : S8192.Idx) : (hL L r).view.emb x = gix L r (x 0).val (x 0).isLt := by
  refine i1_ext ?_
  show k0_off1 L (BitVec.ofNat 32 (8192 * r.val)) 0 + 1 * (x 0).val = base L + 8192 * r.val + (x 0).val
  rw [off_eq]; show base L + 8192 * r.val + 1 * (x 0).val = _; omega
theorem emb_hC (L : grid0.Coords) (r : Fin 4) (x : S8192.Idx) : (hC L r).view.emb x = gix L r (x 0).val (x 0).isLt := emb_hL L r x
theorem emb_hO (L : grid0.Coords) (r : Fin 4) (x : S8192.Idx) : (hO L r).view.emb x = gix L r (x 0).val (x 0).isLt := emb_hL L r x

theorem mem_rowL (b : Fin 2) (y : S2x8192.Idx) : y ∈ (rowL b).view.set ↔ (y 0).val = b.val := by
  constructor
  · intro h
    obtain ⟨x, -, rfl⟩ := Finset.mem_map.mp h
    rw [emb_rowL]; rfl
  · intro h
    refine Finset.mem_map.mpr ⟨i1 (y 1).val (y 1).isLt, Finset.mem_univ _, ?_⟩
    rw [emb_rowL]; exact i2_ext h.symm rfl
theorem mem_rowC (b : Fin 2) (y : S2x8192.Idx) : y ∈ (rowC b).view.set ↔ (y 0).val = b.val := mem_rowL b y
theorem mem_chO (r : Fin 4) (y : S32768.Idx) : y ∈ (chO r).view.set ↔ 8192 * r.val ≤ (y 0).val ∧ (y 0).val < 8192 * r.val + 8192 := by
  constructor
  · intro h
    obtain ⟨x, -, rfl⟩ := Finset.mem_map.mp h
    have : (x 0).val < 8192 := (x 0).isLt
    rw [emb_chO]; omega
  · intro h
    refine Finset.mem_map.mpr ⟨i1 ((y 0).val - 8192 * r.val) (by omega), Finset.mem_univ _, ?_⟩
    refine i1_ext (N := 32768) ?_
    rw [emb_chO, i1_val]; omega
theorem mem_hL (L : grid0.Coords) (r : Fin 4) (y : S1048576.Idx) :
    y ∈ (hL L r).view.set ↔ base L + 8192 * r.val ≤ (y 0).val ∧ (y 0).val < base L + 8192 * r.val + 8192 := by
  constructor
  · intro h
    obtain ⟨x, -, rfl⟩ := Finset.mem_map.mp h
    have : (x 0).val < 8192 := (x 0).isLt
    rw [emb_hL]; show base L + 8192 * r.val ≤ base L + 8192 * r.val + _ ∧ base L + 8192 * r.val + _ < _; omega
  · intro h
    refine Finset.mem_map.mpr ⟨i1 ((y 0).val - (base L + 8192 * r.val)) (by omega), Finset.mem_univ _, ?_⟩
    rw [emb_hL]; refine i1_ext (N := 1048576) ?_
    show base L + 8192 * r.val + ((y 0).val - (base L + 8192 * r.val)) = _; omega
theorem mem_hC (L : grid0.Coords) (r : Fin 4) (y : S1048576.Idx) :
    y ∈ (hC L r).view.set ↔ base L + 8192 * r.val ≤ (y 0).val ∧ (y 0).val < base L + 8192 * r.val + 8192 := mem_hL L r y
theorem mem_hO (L : grid0.Coords) (r : Fin 4) (y : S1048576.Idx) :
    y ∈ (hO L r).view.set ↔ base L + 8192 * r.val ≤ (y 0).val ∧ (y 0).val < base L + 8192 * r.val + 8192 := mem_hL L r y

/-! ## The values -/

section Values

variable [FloatOps F]

/-- The threshold of a class of accuracy `a`: 0.95 · (a / (2 − a)). -/
def thrOf (a : F .f32) : F .f32 :=
  FloatOps.mulf (Scalar.ofBits .f32 0x3F733333#32) (FloatOps.divf a (FloatOps.subf (Scalar.ofBits .f32 0x40000000#32) a))
/-- The mask at confidence `c` and threshold `t`: one where `c ≥ t`, else zero. -/
def pick (c t : F .f32) : F .f32 :=
  Scalar.select (FloatOps.cmpf .oge c t) (Scalar.ofBits .f32 0x3F800000#32) (Scalar.ofBits .f32 0x00000000#32)
/-- A class accuracy by a label's word (a word out of range reads class 0; no label is). -/
def accAt (acc : S1000.Idx → F .f32) (l : BitVec 32) : F .f32 :=
  if h : l.toNat < 1000 then acc (i1 l.toNat h) else acc (i1 0 (by decide))
/-- The kernel's result, element by element. -/
def gval (conf : S1048576.Idx → F .f32) (lab : S1048576.Idx → BitVec 32) (acc : S1000.Idx → F .f32) (y : S1048576.Idx) : F .f32 :=
  pick (conf y) (thrOf (accAt acc (lab y)))

/-- What a staging row holds of an array once chunk `r` of subcore `L`'s block has landed in it. -/
def staged {α : Type} (L : grid0.Coords) (r : Fin 4) (f : S1048576.Idx → α) : S2x8192.Idx → α := fun y => f (gix L r (y 1).val (y 1).isLt)
/-- What the result scratch holds of an array of the result's shape. -/
def local' {α : Type} (L : grid0.Coords) (f : S1048576.Idx → α) : S32768.Idx → α :=
  fun y => f (i1 (base L + (y 0).val) (by have := base_le L; have : (y 0).val < 32768 := (y 0).isLt; omega))

end Values

/-! ## What the copies land -/

theorem land_rowL (L : grid0.Coords) (r : Fin 4) (b : Fin 2) (fd : S2x8192.Idx → BitVec 32) (f : S1048576.Idx → BitVec 32) :
    ∀ y ∈ (rowL b).view.set, (rowL b).view.write (Elt F) fd ((hL L r).view.read (Elt F) f) Finset.univ y = staged L r f y := by
  intro y hy
  obtain ⟨x, -, rfl⟩ := Finset.mem_map.mp hy
  refine (View.write_emb_of_mem (v := (rowL b).view) (Val := Elt F) fd _ (Finset.mem_univ x)).trans ?_
  show f ((hL L r).view.emb x) = staged L r f ((rowL b).view.emb x)
  rw [emb_hL, emb_rowL]; rfl
theorem land_rowC (L : grid0.Coords) (r : Fin 4) (b : Fin 2) (fd : S2x8192.Idx → F .f32) (f : S1048576.Idx → F .f32) :
    ∀ y ∈ (rowC b).view.set, (rowC b).view.write (Elt F) fd ((hC L r).view.read (Elt F) f) Finset.univ y = staged L r f y := by
  intro y hy
  obtain ⟨x, -, rfl⟩ := Finset.mem_map.mp hy
  refine (View.write_emb_of_mem (v := (rowC b).view) (Val := Elt F) fd _ (Finset.mem_univ x)).trans ?_
  show f ((hC L r).view.emb x) = staged L r f ((rowC b).view.emb x)
  rw [emb_hC, emb_rowC]; rfl
theorem land_hO (L : grid0.Coords) (r : Fin 4) (fd : S1048576.Idx → F .f32) (f : S1048576.Idx → F .f32) :
    ∀ y ∈ (hO L r).view.set, (hO L r).view.write (Elt F) fd ((chO r).view.read (Elt F) (local' L f)) Finset.univ y = f y := by
  intro y hy
  obtain ⟨x, -, rfl⟩ := Finset.mem_map.mp hy
  refine (View.write_emb_of_mem (v := (hO L r).view) (Val := Elt F) fd _ (Finset.mem_univ x)).trans ?_
  show local' L f ((chO r).view.emb x) = f ((hO L r).view.emb x)
  rw [emb_hO]; unfold local'
  congr 1
  refine i1_ext (N := 1048576) ?_
  show base L + ((chO r).view.emb x 0).val = base L + 8192 * r.val + (x 0).val
  have := emb_chO r x
  omega

end Cert.Proof.Mask

end
-- ==== Proof.Trip.lean ====
/-
  The kernel's loops. The four chunk loops are one program at different offsets: a trip loads sixteen labels and
  their confidences from a row of the staging buffers, gathers the labels' thresholds and stores sixteen results. The
  trip and the loop are proved once, at any row and chunk. The table loop turns accuracies to thresholds.
-/
module

public import proofs.«01_k».proof.Proof.Setup

@[expose] public section

noncomputable section

namespace Cert.Proof.Mask

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A subcore's coordinates in the device's grid, and its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## One trip of a chunk loop -/

/-- A trip of a chunk loop, at the offsets it loads and stores at. -/
def trip (L : grid0.Coords) (oI oC : Fin 2 → ℕ) (oR : Fin 1 → ℕ) (hI : ∀ a, oI a + S1x16.size a ≤ S2x8192.size a)
    (hC : ∀ a, oC a + S1x16.size a ≤ S2x8192.size a) (hR : ∀ a, oR a + S16.size a ≤ S32768.size a) :
    Prog (TpuEff nD τ sig (Elt F) Λ₀ (.scVector ((L 0).castLE hcore0) ((L 1).castLE hsub0))) Unit := do
  let l ← Prog.lift (.load sL (Rect.unit (s := S2x8192) oI S1x16.size hI).toLoadRect (View.loadsAt_vmem h_S1x16))
  have l' : Vec F S16 .i32 := shapeCast S16 l shapeCasts_S1x16_S16
  have hw : k0_chk1 l' := (← Prog.lift (TpuEff.assume (k0_chk1 l') (k0_chk1.dec l'))).down
  let t : Vec F S16 .f32 ← SparseCore.vectorLoadIdx sT ![l'] (k0_idx1_inb l' hw) (View.loads_vmem h_S1024)
  let c : Vec F S1x16 .f32 ← Prog.lift (.load sC (Rect.unit (s := S2x8192) oC S1x16.size hC).toLoadRect (View.loadsAt_vmem h_S1x16))
  let _o : Vec F S16 .f32 ← Prog.lift (.load sO (Rect.unit (s := S32768) oR S16.size hR).toLoadRect (View.loadsAt_vmem h_S16))
  Prog.lift (.store sO (Rect.unit (s := S32768) oR S16.size hR) (k0_pay1 t c) Finset.univ (View.stores_vmem_bits_univ h_S16 rfl) (.inl rfl))
  pure ⟨⟩

variable (L : grid0.Coords) (d : Dev nD)

theorem row_sub (b : Fin 2) (t : ℕ) (ht : t < 512) (hI : ∀ a, (![b.val, 16 * t] : Fin 2 → ℕ) a + S1x16.size a ≤ S2x8192.size a) :
    (sL.access (Rect.unit (s := S2x8192) ![b.val, 16 * t] S1x16.size hI)).set ⊆ (rowL b).view.set := by
  intro y hy
  obtain ⟨x, -, rfl⟩ := Finset.mem_map.mp hy
  rw [mem_rowL]
  show b.val + 1 * (x 0).val = b.val
  have : (x 0).val < 1 := (x 0).isLt
  omega

theorem out_sub (r : Fin 4) (t : ℕ) (ht : t < 512) (hR : ∀ a, (![16 * t + 8192 * r.val] : Fin 1 → ℕ) a + S16.size a ≤ S32768.size a) :
    (sO.access (Rect.unit (s := S32768) ![16 * t + 8192 * r.val] S16.size hR)).set ⊆ (chO r).view.set := by
  intro y hy
  obtain ⟨x, -, rfl⟩ := Finset.mem_map.mp hy
  rw [mem_chO]
  show 8192 * r.val ≤ 16 * t + 8192 * r.val + 1 * (x 0).val ∧ 16 * t + 8192 * r.val + 1 * (x 0).val < 8192 * r.val + 8192
  have : (x 0).val < 16 := (x 0).isLt
  omega

/-- What sixteen elements of a staging row read as a vector. -/
theorem row_read {α : Type} (b : Fin 2) (t : ℕ) (ht : t < 512) (hI : ∀ a, (![b.val, 16 * t] : Fin 2 → ℕ) a + S1x16.size a ≤ S2x8192.size a)
    (f : S2x8192.Idx → α) (x : S16.Idx) (h : 16 * t + (x 0).val < 8192) :
    f ((Rect.unit (s := S2x8192) ![b.val, 16 * t] S1x16.size hI).emb (Shape.reshapeEquiv shapeCasts_S1x16_S16 x)) = f (i2 b (16 * t + (x 0).val) h) := by
  congr 1
  rw [Shape.reshapeEquiv_cons_one]
  refine i2_ext ?_ ?_
  · show b.val + 1 * 0 = b.val; omega
  · show 16 * t + 1 * (x 0).val = _; show _ = 16 * t + (x 0).val; omega

/-- The results up to element `k` of chunk `r`, over what the scratch held. -/
def upto (r : Fin 4) (res fo : S32768.Idx → F .f32) (k : ℕ) : S32768.Idx → F .f32 := fun y => if (y 0).val < 8192 * r.val + k then res y else fo y

/-- A store of sixteen results extends the results by sixteen. -/
theorem upto_write (r : Fin 4) (t : ℕ) (ht : t < 512) (hR : ∀ a, (![16 * t + 8192 * r.val] : Fin 1 → ℕ) a + S16.size a ≤ S32768.size a)
    (res fo : S32768.Idx → F .f32) (w : S16.Idx → F .f32) (hw : ∀ (x : S16.Idx) (y : S32768.Idx), (y 0).val = 8192 * r.val + (16 * t + (x 0).val) → w x = res y) (y : S32768.Idx) :
    (sO.access (Rect.unit (s := S32768) ![16 * t + 8192 * r.val] S16.size hR)).write (Elt F) (upto r res fo (16 * t)) w Finset.univ y = upto r res fo (16 * (t + 1)) y := by
  by_cases hm : y ∈ (sO.access (Rect.unit (s := S32768) ![16 * t + 8192 * r.val] S16.size hR)).set
  · obtain ⟨x, -, rfl⟩ := Finset.mem_map.mp hm
    have hx : (x 0).val < 16 := (x 0).isLt
    refine (View.write_emb_of_mem (v := sO.access (Rect.unit (s := S32768) ![16 * t + 8192 * r.val] S16.size hR)) (Val := Elt F) _ _ (Finset.mem_univ x)).trans ?_
    have hv : (((sO.access (Rect.unit (s := S32768) ![16 * t + 8192 * r.val] S16.size hR)).emb x : S32768.Idx) 0).val = 16 * t + 8192 * r.val + 1 * (x 0).val := rfl
    refine (hw x _ (by omega)).trans (if_pos ?_).symm
    show (((sO.access (Rect.unit (s := S32768) ![16 * t + 8192 * r.val] S16.size hR)).emb x : S32768.Idx) 0).val < _
    omega
  · rw [View.write_of_not_mem (v := sO.access (Rect.unit (s := S32768) ![16 * t + 8192 * r.val] S16.size hR)) (Val := Elt F) _ _ _ hm]
    unfold upto
    by_cases h1 : (y 0).val < 8192 * r.val + 16 * t
    · rw [if_pos h1, if_pos (by omega)]
    · rw [if_neg h1, if_neg fun h2 => hm ?_]
      refine Finset.mem_map.mpr ⟨i1 ((y 0).val - (16 * t + 8192 * r.val)) (by omega), Finset.mem_univ _, i1_ext (N := 32768) ?_⟩
      show 16 * t + 8192 * r.val + 1 * ((y 0).val - (16 * t + 8192 * r.val)) = (y 0).val
      omega

/-- A chunk loop's invariant before trip `k`: the thresholds, chunk `r`'s labels and confidences in row `b`, and its results up to `16 k`. -/
def inv (b : Fin 2) (r : Fin 4) (fl : S2x8192.Idx → BitVec 32) (fc : S2x8192.Idx → F .f32) (ft : S1024.Idx → F .f32) (res fo : S32768.Idx → F .f32) (k : ℕ) (_ : Unit) : sProp 𝕄 :=
  iprop(((rowL b).view.loc (thr d L) ↦[(rowL b).view.set]{fullShare} fl) ∗ ((rowC b).view.loc (thr d L) ↦[(rowC b).view.set]{fullShare} fc)
    ∗ (sT.view.loc (thr d L) ↦[Finset.univ]{fullShare} ft) ∗ ((chO r).view.loc (thr d L) ↦[(chO r).view.set]{fullShare} upto r res fo (16 * k)))

/-- A trip at row `b` and chunk `r`, sixteen elements from `16 t`: it takes the results up to `16 t` to those up to `16 (t + 1)`. -/
theorem wp_trip (b : Fin 2) (r : Fin 4) (t : ℕ) (ht : t < 512) (oI oC : Fin 2 → ℕ) (oR : Fin 1 → ℕ) (eI : oI = ![b.val, 16 * t]) (eC : oC = ![b.val, 16 * t])
    (eR : oR = ![16 * t + 8192 * r.val]) (hI : ∀ a, oI a + S1x16.size a ≤ S2x8192.size a) (hC : ∀ a, oC a + S1x16.size a ≤ S2x8192.size a)
    (hR : ∀ a, oR a + S16.size a ≤ S32768.size a) (fl : S2x8192.Idx → BitVec 32) (fc : S2x8192.Idx → F .f32) (ft : S1024.Idx → F .f32) (res fo : S32768.Idx → F .f32)
    (hlab : ∀ n hn, (fl (i2 b n hn)).toNat < 1024)
    (hres : ∀ n hn (y : S32768.Idx), (y 0).val = 8192 * r.val + n → res y = pick (fc (i2 b n hn)) (ft (i1 _ (hlab n hn)))) (acc : Unit) :
    inv L d b r fl fc ft res fo t acc ⊢ wp frame (wpE defs₀ 𝒱₀ (thr d L) none) Set.univ (trip (F := F) L oI oC oR hI hC hR) (inv L d b r fl fc ft res fo (t + 1)) := by
  subst eI eC eR
  unfold trip inv
  simp only [Prog.lift, Prog.bind_op, Prog.bind_ret, Prog.bind_assoc, Prog.pure_eq_ret]
  iintro ⟨HL, HC, HT, HO⟩
  iapply (wp_load_rect 𝒱₀ (thr d L) none Set.univ (m := sL) (r := Rect.unit (s := S2x8192) ![b.val, 16 * t] S1x16.size hI) (S := (rowL b).view.set) (q := fullShare) (row_sub b t ht hI)) $$ HL; iintro HL
  have hchk : k0_chk1 (shapeCast S16 ((sL.access (Rect.unit (s := S2x8192) ![b.val, 16 * t] S1x16.size hI)).read (Elt F) fl) shapeCasts_S1x16_S16) := by
    intro a x
    have hx : (x 0).val < 16 := (x 0).isLt
    rw [Subsingleton.elim a 0]
    refine lt_of_eq_of_lt (congrArg BitVec.toNat ?_) (hlab (16 * t + (x 0).val) (by omega))
    exact row_read b t ht hI fl x (by omega)
  have hpay : ∀ (x : S16.Idx) (y : S32768.Idx), (y 0).val = 8192 * r.val + (16 * t + (x 0).val) →
      k0_pay1 (loadIdx ((sT.access (Rect.whole S1024)).read (Elt F) ft) ![shapeCast S16 ((sL.access (Rect.unit (s := S2x8192) ![b.val, 16 * t] S1x16.size hI)).read (Elt F) fl) shapeCasts_S1x16_S16]
        (k0_idx1_inb _ hchk)) ((sC.access (Rect.unit (s := S2x8192) ![b.val, 16 * t] S1x16.size hC)).read (Elt F) fc) x = res y := by
    intro x y hy
    have hx : (x 0).val < 16 := (x 0).isLt
    rw [hres (16 * t + (x 0).val) (by omega) y hy]
    have e1 := row_read b t ht hI fl x (by omega)
    have e2 := row_read b t ht hC fc x (by omega)
    unfold pick
    rw [← e2]
    have e3 : ft (i1 (fl (i2 b (16 * t + (x 0).val) (by omega))).toNat (hlab _ _)) = loadIdx ((sT.access (Rect.whole S1024)).read (Elt F) ft) ![shapeCast S16 ((sL.access (Rect.unit (s := S2x8192) ![b.val, 16 * t] S1x16.size hI)).read (Elt F) fl) shapeCasts_S1x16_S16]
        (k0_idx1_inb _ hchk) x := by
      refine congrArg ft (i1_ext (N := 1024) ?_)
      exact (congrArg BitVec.toNat e1).symm.trans ((Nat.zero_add _).trans (Nat.one_mul _)).symm
    rw [e3]; rfl
  rw [wp_assume_of _ _ _ _ hchk]
  iapply (SparseCore.wp_vectorLoadIdx 𝒱₀ (thr d L) none Set.univ (base := sT) (S := Finset.univ) (q := fullShare) (Finset.subset_univ _)) $$ HT; iintro HT
  iapply (wp_load_rect 𝒱₀ (thr d L) none Set.univ (m := sC) (r := Rect.unit (s := S2x8192) ![b.val, 16 * t] S1x16.size hC) (S := (rowC b).view.set) (q := fullShare) (row_sub b t ht hI)) $$ HC; iintro HC
  iapply (wp_load_rect 𝒱₀ (thr d L) none Set.univ (m := sO) (r := Rect.unit (s := S32768) ![16 * t + 8192 * r.val] S16.size hR) (S := (chO r).view.set) (q := fullShare) (out_sub r t ht hR)) $$ HO; iintro HO
  iapply (wp_store 𝒱₀ (thr d L) none Set.univ (m := sO) (r := Rect.unit (s := S32768) ![16 * t + 8192 * r.val] S16.size hR) (Mk := Finset.univ) (S := (chO r).view.set) (out_sub r t ht hR)) $$ HO; iintro HO
  rw [wp_ret]; imodintro
  isplitl [HL]; · iexact HL
  isplitl [HC]; · iexact HC
  isplitl [HT]; · iexact HT
  iapply (Entails.of_eq (pointsTo_congr fun y _ => upto_write r t ht hR res fo _ hpay y))
  iexact HO

/-! ## The table loop -/

/-- The thresholds of the classes below `k`, of the accuracies `fa`, over what the scratch held. -/
def tab (fa ft : S1024.Idx → F .f32) (k : ℕ) : S1024.Idx → F .f32 := fun y => if (y 0).val < k then thrOf (fa y) else ft y

/-- The table loop's invariant before trip `k`: the accuracies, and the thresholds of the first `16 k`. -/
def invT (fa ft : S1024.Idx → F .f32) (k : ℕ) (_ : Unit) : sProp 𝕄 :=
  iprop((sA.view.loc (thr d L) ↦[Finset.univ]{fullShare} fa) ∗ (sT.view.loc (thr d L) ↦[Finset.univ]{fullShare} tab fa ft (16 * k)))

/-- A trip of the table loop, at its offset. -/
def tripT (L : grid0.Coords) (oT : Fin 1 → ℕ) (hT : ∀ a, oT a + S16.size a ≤ S1024.size a) :
    Prog (TpuEff nD τ sig (Elt F) Λ₀ (.scVector ((L 0).castLE hcore0) ((L 1).castLE hsub0))) Unit := do
  let a : Vec F S16 .f32 ← Prog.lift (.load sA (Rect.unit (s := S1024) oT S16.size hT).toLoadRect (View.loadsAt_vmem h_S16))
  let _o : Vec F S16 .f32 ← Prog.lift (.load sT (Rect.unit (s := S1024) oT S16.size hT).toLoadRect (View.loadsAt_vmem h_S16))
  Prog.lift (.store sT (Rect.unit (s := S1024) oT S16.size hT) (k0_pay2 a) Finset.univ (View.stores_vmem_bits_univ h_S16 rfl) (.inl rfl))
  pure ⟨⟩

/-- A store of sixteen thresholds extends the table by sixteen. -/
theorem tab_write (t : ℕ) (hT : ∀ a, (![16 * t] : Fin 1 → ℕ) a + S16.size a ≤ S1024.size a) (fa ft : S1024.Idx → F .f32) (y : S1024.Idx) :
    (sT.access (Rect.unit (s := S1024) ![16 * t] S16.size hT)).write (Elt F) (tab fa ft (16 * t))
      (k0_pay2 ((sA.access (Rect.unit (s := S1024) ![16 * t] S16.size hT)).read (Elt F) fa)) Finset.univ y = tab fa ft (16 * (t + 1)) y := by
  by_cases hm : y ∈ (sT.access (Rect.unit (s := S1024) ![16 * t] S16.size hT)).set
  · obtain ⟨x, -, rfl⟩ := Finset.mem_map.mp hm
    have hx : (x 0).val < 16 := (x 0).isLt
    refine (View.write_emb_of_mem (v := sT.access (Rect.unit (s := S1024) ![16 * t] S16.size hT)) (Val := Elt F) _ _ (Finset.mem_univ x)).trans ?_
    refine Eq.trans ?_ (if_pos ?_).symm
    · rfl
    · show 16 * t + 1 * (x 0).val < 16 * (t + 1)
      omega
  · rw [View.write_of_not_mem (v := sT.access (Rect.unit (s := S1024) ![16 * t] S16.size hT)) (Val := Elt F) _ _ _ hm]
    unfold tab
    by_cases h1 : (y 0).val < 16 * t
    · rw [if_pos h1, if_pos (by omega)]
    · rw [if_neg h1, if_neg fun h2 => hm ?_]
      refine Finset.mem_map.mpr ⟨i1 ((y 0).val - 16 * t) (by omega), Finset.mem_univ _, i1_ext (N := 1024) ?_⟩
      show 16 * t + 1 * ((y 0).val - 16 * t) = (y 0).val
      omega

/-- A trip of the table loop takes the thresholds of the first `16 t` classes to those of the first `16 (t + 1)`. -/
theorem wp_tripT (t : ℕ) (oT : Fin 1 → ℕ) (eT : oT = ![16 * t]) (hT : ∀ a, oT a + S16.size a ≤ S1024.size a) (fa ft : S1024.Idx → F .f32) (acc : Unit) :
    invT L d fa ft t acc ⊢ wp frame (wpE defs₀ 𝒱₀ (thr d L) none) Set.univ (tripT (F := F) L oT hT) (invT L d fa ft (t + 1)) := by
  subst eT
  unfold tripT invT
  simp only [Prog.lift, Prog.bind_op, Prog.bind_ret, Prog.bind_assoc, Prog.pure_eq_ret]
  iintro ⟨HA, HT⟩
  iapply (wp_load_rect 𝒱₀ (thr d L) none Set.univ (m := sA) (r := Rect.unit (s := S1024) ![16 * t] S16.size hT) (S := Finset.univ) (q := fullShare) (Finset.subset_univ _)) $$ HA; iintro HA
  iapply (wp_load_rect 𝒱₀ (thr d L) none Set.univ (m := sT) (r := Rect.unit (s := S1024) ![16 * t] S16.size hT) (S := Finset.univ) (q := fullShare) (Finset.subset_univ _)) $$ HT; iintro HT
  iapply (wp_store 𝒱₀ (thr d L) none Set.univ (m := sT) (r := Rect.unit (s := S1024) ![16 * t] S16.size hT) (Mk := Finset.univ) (S := Finset.univ) (Finset.subset_univ _)) $$ HT; iintro HT
  rw [wp_ret]; imodintro
  isplitl [HA]; · iexact HA
  iapply (Entails.of_eq (pointsTo_congr fun y _ => tab_write t hT fa ft y))
  iexact HT

end Cert.Proof.Mask

end
-- ==== Proof.Tile.lean ====
/-
  One subcore's task: it copies the accuracies, turns them to thresholds, and works its block's four chunks through the
  two staging rows; the mask of the block lies in the result when it ends.
-/
module

public import proofs.«01_k».proof.Proof.Trip
public import Idealize.ShloMosaic.Lib.Ring.AtN

@[expose] public section

noncomputable section

namespace Cert.Proof.Mask

open Cert.KernelIdeal Cert.KernelIdeal.Gen

open Idealize.ShloMosaic
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (d : Dev nD) (L : grid0.Coords)

/-- Chunk `r` of the labels, of the confidences and of the result, as subcore `L` addresses them. -/
abbrev pHL (r : Fin 4) (f : S1048576.Idx → BitVec 32) : sProp 𝕄 := (hL L r).view.loc (thr d L) ↦[(hL L r).view.set]{fullShare} f
abbrev pHC (r : Fin 4) (f : S1048576.Idx → F .f32) : sProp 𝕄 := (hC L r).view.loc (thr d L) ↦[(hC L r).view.set]{fullShare} f
abbrev pHO (r : Fin 4) (f : S1048576.Idx → F .f32) : sProp 𝕄 := (hO L r).view.loc (thr d L) ↦[(hO L r).view.set]{fullShare} f
/-- A staging row of labels, of confidences, and a chunk of the result scratch. -/
abbrev pRL (b : Fin 2) (f : S2x8192.Idx → BitVec 32) : sProp 𝕄 := (rowL b).view.loc (thr d L) ↦[(rowL b).view.set]{fullShare} f
abbrev pRC (b : Fin 2) (f : S2x8192.Idx → F .f32) : sProp 𝕄 := (rowC b).view.loc (thr d L) ↦[(rowC b).view.set]{fullShare} f
abbrev pO (r : Fin 4) (f : S32768.Idx → F .f32) : sProp 𝕄 := (chO r).view.loc (thr d L) ↦[(chO r).view.set]{fullShare} f

/-- What the two input copies of chunk `r` into row `b` deliver: the row of labels landed and its source, the row of confidences likewise. -/
abbrev dIn (r : Fin 4) (b : Fin 2) (lab : S1048576.Idx → BitVec 32) (conf : S1048576.Idx → F .f32) (fl : S2x8192.Idx → BitVec 32) (fc : S2x8192.Idx → F .f32) : Fin 2 → sProp 𝕄
  | 0 => iprop(pRL d L b ((rowL b).view.writes (Elt F) fl [⟨Rect.whole S8192, ReadAs.same.apply ((hL L r).view.read (Elt F) lab)⟩]) ∗ pHL d L r lab)
  | 1 => iprop(pRC d L b ((rowC b).view.writes (Elt F) fc [⟨Rect.whole S8192, ReadAs.same.apply ((hC L r).view.read (Elt F) conf)⟩]) ∗ pHC d L r conf)
/-- What the four output copies deliver: a chunk of the result landed, and its source. -/
abbrev dOut (res : S32768.Idx → F .f32) (fo : S1048576.Idx → F .f32) (r : Fin 4) : sProp 𝕄 :=
  iprop(pHO d L r ((hO L r).view.writes (Elt F) fo [⟨Rect.whole S8192, ReadAs.same.apply ((chO r).view.read (Elt F) res)⟩]) ∗ pO d L r res)

instance dIn_storable (r : Fin 4) (b : Fin 2) (lab : S1048576.Idx → BitVec 32) (conf : S1048576.Idx → F .f32) (fl : S2x8192.Idx → BitVec 32) (fc : S2x8192.Idx → F .f32) (t : Fin 2) :
    BI.Storable (upEmb : UEmb _ 𝕄) (dIn d L r b lab conf fl fc t) := match t with
  | 0 => inferInstance
  | 1 => inferInstance

/-- The two input semaphores, by their numbers. -/
theorem sem6_back : (semVal (thr d L, SemLoc.dma ⟨1, by decide⟩) 0 : sProp 𝕄) ⊢ semVal (thr d L, SemLoc.dma cc0_scratch6.sem) 0 := Entails.of_eq rfl
theorem sem7_back : (semVal (thr d L, SemLoc.dma ⟨2, by decide⟩) 0 : sProp 𝕄) ⊢ semVal (thr d L, SemLoc.dma cc0_scratch7.sem) 0 := Entails.of_eq rfl

/-- The accuracies landed in the first thousand words of their scratch. -/
theorem acc_landed (fA : S1024.Idx → F .f32) (w : S1000.Idx → F .f32) :
    (sA.view.loc (thr d L) ↦[Finset.univ]{fullShare} (sA.view.writes (Elt F) fA [⟨Rect.unit (s := S1024) ![0] S1000.size inb_S1024_S1000_0, w⟩]) : sProp 𝕄)
      ⊢ iprop(∃ fa : S1024.Idx → F .f32, ⌜∀ n (h : n < 1000), fa (i1 n (h.trans (by decide))) = w (i1 n h)⌝ ∗ (sA.view.loc (thr d L) ↦[Finset.univ]{fullShare} fa)) := by
  iintro H
  iexists _
  isplitr
  swap; · iexact H
  ipureintro
  intro n h
  have he : (sA.view.slice (Rect.unit (s := S1024) ![0] S1000.size inb_S1024_S1000_0)).emb (i1 n h : S1000.Idx) = (i1 n (h.trans (by decide)) : S1024.Idx) := i1_ext (by
    show 0 + 1 * n = n
    omega)
  show (sA.view.slice (Rect.unit (s := S1024) ![0] S1000.size inb_S1024_S1000_0)).write (Elt F) fA w Finset.univ _ = _
  rw [← he]
  exact View.write_emb_of_mem (v := sA.view.slice (Rect.unit (s := S1024) ![0] S1000.size inb_S1024_S1000_0)) (Val := Elt F) _ _ (Finset.mem_univ _)

/-- A row of labels landed, and a row of confidences, and a chunk of the result. -/
theorem rowL_landed (r : Fin 4) (b : Fin 2) (fl : S2x8192.Idx → BitVec 32) (lab : S1048576.Idx → BitVec 32) :
    (pRL d L b ((rowL b).view.writes (Elt F) fl [⟨Rect.whole S8192, ReadAs.same.apply ((hL L r).view.read (Elt F) lab)⟩]) : sProp 𝕄) ⊢ pRL d L b (staged L r lab) := by
  refine Entails.of_eq (pointsTo_congr fun y hy => ?_)
  rw [← View.write_univ_eq_writes_whole]
  exact land_rowL L r b fl lab y hy
theorem rowC_landed (r : Fin 4) (b : Fin 2) (fc : S2x8192.Idx → F .f32) (conf : S1048576.Idx → F .f32) :
    (pRC d L b ((rowC b).view.writes (Elt F) fc [⟨Rect.whole S8192, ReadAs.same.apply ((hC L r).view.read (Elt F) conf)⟩]) : sProp 𝕄) ⊢ pRC d L b (staged L r conf) := by
  refine Entails.of_eq (pointsTo_congr fun y hy => ?_)
  rw [← View.write_univ_eq_writes_whole]
  exact land_rowC L r b fc conf y hy
theorem out_landed (r : Fin 4) (fo f : S1048576.Idx → F .f32) :
    (pHO d L r ((hO L r).view.writes (Elt F) fo [⟨Rect.whole S8192, ReadAs.same.apply ((chO r).view.read (Elt F) (local' L f))⟩]) : sProp 𝕄) ⊢ pHO d L r f := by
  refine Entails.of_eq (pointsTo_congr fun y hy => ?_)
  rw [← View.write_univ_eq_writes_whole]
  exact land_hO L r fo f y hy

/-! ## The staging buffers as their rows, the result scratch as its chunks -/

theorem rows_disjoint : Disjoint ((rowL 0).view.set : Finset S2x8192.Idx) (rowL 1).view.set :=
  Finset.disjoint_left.mpr fun y h0 h1 => absurd (((mem_rowL 0 y).mp h0).symm.trans ((mem_rowL 1 y).mp h1)) (by decide)
theorem rows_cover : ((rowL 0).view.set ∪ (rowL 1).view.set : Finset S2x8192.Idx) = Finset.univ := by
  refine Finset.eq_univ_iff_forall.mpr fun y => Finset.mem_union.mpr ?_
  have hy : (y 0).val < 2 := (y 0).isLt
  by_cases h : (y 0).val = 0
  · exact .inl ((mem_rowL 0 y).mpr h)
  · exact .inr ((mem_rowL 1 y).mpr (by show (y 0).val = 1; omega))
theorem sL_rows (f : S2x8192.Idx → BitVec 32) : (sL.view.loc (thr d L) ↦[Finset.univ]{fullShare} f : sProp 𝕄) ⊢ iprop(pRL d L 0 f ∗ pRL d L 1 f) := by
  rw [← rows_cover]; exact (pointsTo_union rows_disjoint).1
theorem sC_rows (f : S2x8192.Idx → F .f32) : (sC.view.loc (thr d L) ↦[Finset.univ]{fullShare} f : sProp 𝕄) ⊢ iprop(pRC d L 0 f ∗ pRC d L 1 f) := by
  rw [← rows_cover]; exact (pointsTo_union rows_disjoint).1
theorem rowsL_join {f g : S2x8192.Idx → BitVec 32} : (iprop(pRL d L 0 f ∗ pRL d L 1 g) : sProp 𝕄) ⊢ iprop(∃ h, sL.view.loc (thr d L) ↦[Finset.univ]{fullShare} h) := by
  iintro H
  iexists _
  rw [← rows_cover]
  iapply (pointsTo_join rows_disjoint); iexact H
theorem rowsC_join {f g : S2x8192.Idx → F .f32} : (iprop(pRC d L 0 f ∗ pRC d L 1 g) : sProp 𝕄) ⊢ iprop(∃ h, sC.view.loc (thr d L) ↦[Finset.univ]{fullShare} h) := by
  iintro H
  iexists _
  rw [← rows_cover]
  iapply (pointsTo_join rows_disjoint); iexact H

theorem chunks_disjoint : ∀ r ∈ (Finset.univ : Finset (Fin 4)), ∀ r' ∈ (Finset.univ : Finset (Fin 4)), r ≠ r' →
    Disjoint ((chO r).view.set : Finset S32768.Idx) (chO r').view.set := by
  intro r _ r' _ hne
  refine Finset.disjoint_left.mpr fun y h h' => hne (Fin.ext ?_)
  have := (mem_chO r y).mp h
  have := (mem_chO r' y).mp h'
  omega
theorem chunks_cover : ((Finset.univ : Finset (Fin 4)).biUnion (β := S32768.Idx) fun r => (chO r).view.set) = Finset.univ := by
  refine Finset.eq_univ_iff_forall.mpr fun y => Finset.mem_biUnion.mpr ?_
  have hy : (y 0).val < 32768 := (y 0).isLt
  refine ⟨⟨(y 0).val / 8192, by omega⟩, Finset.mem_univ _, (mem_chO _ y).mpr ?_⟩
  show 8192 * ((y 0).val / 8192) ≤ _ ∧ _ < 8192 * ((y 0).val / 8192) + 8192
  omega
theorem sO_chunks (f : S32768.Idx → F .f32) : (sO.view.loc (thr d L) ↦[Finset.univ]{fullShare} f : sProp 𝕄) = iprop(pO d L 0 f ∗ pO d L 1 f ∗ pO d L 2 f ∗ pO d L 3 f) := by
  refine Eq.trans ?_ (Ring.bigSep_fin4 fun r => pO d L r f)
  refine Eq.trans ?_ (pointsTo_biUnion (ℓ := sO.view.loc (thr d L)) Finset.univ (fun r : Fin 4 => (chO r).view.set) chunks_disjoint)
  exact congrArg (fun I => (sO.view.loc (thr d L) ↦[I]{fullShare} f : sProp 𝕄)) chunks_cover.symm

/-- Before a chunk loop nothing of the chunk is written; after it, all of it. -/
theorem upto_zero (r : Fin 4) (res fo : S32768.Idx → F .f32) : (pO d L r fo : sProp 𝕄) ⊢ pO d L r (upto r res fo (16 * 0)) := by
  refine Entails.of_eq (pointsTo_congr fun y hy => (if_neg ?_).symm)
  have := (mem_chO r y).mp hy
  omega
theorem upto_all (r : Fin 4) (res fo : S32768.Idx → F .f32) (k : ℕ) (hk : k = 512) : (pO d L r (upto r res fo (16 * k)) : sProp 𝕄) ⊢ pO d L r res := by
  subst hk
  refine Entails.of_eq (pointsTo_congr fun y hy => if_pos ?_)
  have := (mem_chO r y).mp hy
  omega

/-- The result scratch's chunk `r`, element by element, from the staged rows and the thresholds. -/
theorem res_eq (r : Fin 4) (b : Fin 2) (conf : S1048576.Idx → F .f32) (lab : S1048576.Idx → BitVec 32) (acc : S1000.Idx → F .f32) (ft : S1024.Idx → F .f32)
    (hft : ∀ n (h : n < 1000), ft (i1 n (h.trans (by decide))) = thrOf (acc (i1 n h))) (hlab : ∀ y, (lab y).toNat < 1000) (n : ℕ) (hn : n < 8192) (y : S32768.Idx)
    (hy : (y 0).val = 8192 * r.val + n) (hl : (staged L r lab (i2 b n hn)).toNat < 1024) :
    local' L (gval conf lab acc) y = pick (staged L r conf (i2 b n hn)) (ft (i1 _ hl)) := by
  have e : (i1 (base L + (y 0).val) (by have := base_le L; have : (y 0).val < 32768 := (y 0).isLt; omega) : S1048576.Idx) = gix L r n hn := i1_ext (by
    show base L + (y 0).val = base L + 8192 * r.val + n
    omega)
  show gval conf lab acc (i1 (base L + (y 0).val) _) = _
  rw [e]
  show pick (conf (gix L r n hn)) (thrOf (accAt acc (lab (gix L r n hn)))) = pick (conf (gix L r n hn)) (ft (i1 (lab (gix L r n hn)).toNat hl))
  rw [hft _ (hlab _), accAt, dif_pos (hlab _)]

set_option maxHeartbeats 4000000 in
theorem wp_tile (O : CellTallies nD τ sig (HIx 1)) (hO : ∀ g, O g none = 0) (W : Waits sig (HIx 1)) (q : PosShare TreeShare)
    (lab : S1048576.Idx → BitVec 32) (conf : S1048576.Idx → F .f32) (acc : S1000.Idx → F .f32) (fo : S1048576.Idx → F .f32)
    (hlab : ∀ y, (lab y).toNat < 1000) (fA fT : S1024.Idx → F .f32) (fl : S2x8192.Idx → BitVec 32) (fc : S2x8192.Idx → F .f32) (fr : S32768.Idx → F .f32) :
    (iprop(levAts (K (F := F)).L (K (F := F)).lev
      ∗ pHL d L 0 lab ∗ pHL d L 1 lab ∗ pHL d L 2 lab ∗ pHL d L 3 lab
      ∗ pHC d L 0 conf ∗ pHC d L 1 conf ∗ pHC d L 2 conf ∗ pHC d L 3 conf
      ∗ pHO d L 0 fo ∗ pHO d L 1 fo ∗ pHO d L 2 fo ∗ pHO d L 3 fo
      ∗ ((Memref.whole main_arg2_scv).view.loc (thr d L) ↦[(Memref.whole main_arg2_scv).view.set]{q} acc)
      ∗ ((Memref.whole cc0_scratch0).view.loc (thr d L) ↦[Finset.univ]{fullShare} fA) ∗ ((Memref.whole cc0_scratch1).view.loc (thr d L) ↦[Finset.univ]{fullShare} fT)
      ∗ pRL d L 0 fl ∗ pRL d L 1 fl ∗ pRC d L 0 fc ∗ pRC d L 1 fc
      ∗ pO d L 0 fr ∗ pO d L 1 fr ∗ pO d L 2 fr ∗ pO d L 3 fr
      ∗ semVal (thr d L, SemLoc.dma cc0_scratch5.sem) 0 ∗ semVal (thr d L, SemLoc.dma cc0_scratch6.sem) 0
      ∗ semVal (thr d L, SemLoc.dma cc0_scratch7.sem) 0 ∗ semVal (thr d L, SemLoc.dma cc0_scratch8.sem) 0
      ∗ owes (thr d L) O W) : sProp 𝕄)
    ⊢ wp frame (wpE defs₀ 𝒱₀ (thr d L) none) Set.univ
      (cc0_body L (Memref.whole main_arg0_scv) (Memref.isWhole_whole _) (Memref.whole main_arg1_scv) (Memref.isWhole_whole _) (Memref.whole main_arg2_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8)
      fun _ => (iprop((pHL d L 0 lab ∗ pHL d L 1 lab ∗ pHL d L 2 lab ∗ pHL d L 3 lab)
        ∗ (pHC d L 0 conf ∗ pHC d L 1 conf ∗ pHC d L 2 conf ∗ pHC d L 3 conf)
        ∗ (pHO d L 0 (gval conf lab acc) ∗ pHO d L 1 (gval conf lab acc) ∗ pHO d L 2 (gval conf lab acc) ∗ pHO d L 3 (gval conf lab acc))
        ∗ ((Memref.whole main_arg2_scv).view.loc (thr d L) ↦[(Memref.whole main_arg2_scv).view.set]{q} acc)
        ∗ ((∃ f, sA.view.loc (thr d L) ↦[Finset.univ]{fullShare} f) ∗ (∃ f, sT.view.loc (thr d L) ↦[Finset.univ]{fullShare} f)
          ∗ (∃ f, sL.view.loc (thr d L) ↦[Finset.univ]{fullShare} f) ∗ (∃ f, sC.view.loc (thr d L) ↦[Finset.univ]{fullShare} f)
          ∗ (∃ f, sO.view.loc (thr d L) ↦[Finset.univ]{fullShare} f))
        ∗ (semVal (thr d L, SemLoc.dma cc0_scratch5.sem) 0 ∗ semVal (thr d L, SemLoc.dma cc0_scratch6.sem) 0
          ∗ semVal (thr d L, SemLoc.dma cc0_scratch7.sem) 0 ∗ semVal (thr d L, SemLoc.dma cc0_scratch8.sem) 0)
        ∗ ∃ W', ⌜∀ p ∈ W', p ∈ W ∨ p.2 = none⌝ ∗ owes (thr d L) O W') : sProp 𝕄) := by
  iintro ⟨#Hlv, HL0, HL1, HL2, HL3, HC0, HC1, HC2, HC3, HO0, HO1, HO2, HO3, Ha, HA, HT, Hl0, Hl1, Hc0, Hc1, Hr0, Hr1, Hr2, Hr3, Hs5, Hs6, Hs7, Hs8, HO⟩
  ihave Hmw := ((K (F := F)).mayWaits_none (thr := thr d L) hO) $$ Hlv
  imod (Transfers.batch_alloc' (Lvl := ℕ) (countersEmb (U := UU)) (thr d L) (none : HIx 1) ((rowL 0).view.amount (SemLoc.dma (sig := sig) cc0_scratch6.sem)) (dIn d L 0 0 lab conf fl fc) (sm := .dma cc0_scratch6.sem) (E := Set.univ)) $$ Hs6 with HB6
  sl_unfold [cc0_body]
  sl_exec
  ihave HA' := (acc_landed d L fA _) $$ HA
  icases HA' with ⟨%fa, %hfa, HA⟩
  sl_for (invT L d fa fT) $$ [HA HT]
  case region => intro k _; exact wp_tripT L d k.val _ (k0_off2_eq k) _ fa fT _
  · unfold invT
    isplitl [HA]; · iexact HA
    iapply (Entails.of_eq (pointsTo_congr fun y _ => (if_neg (Nat.not_lt_zero _)).symm)) $$ HT
  iintro %_ HI
  unfold invT
  icases HI with ⟨HA, HT⟩
  have hft0 : ∀ n (h : n < 1000), tab fa fT (16 * k0_t1_loop.trips) (i1 n (h.trans (by decide))) = thrOf (acc (i1 n h)) := by
    intro n h
    rw [show k0_t1_loop.trips = 64 by decide +kernel]
    exact (if_pos (h.trans (by decide))).trans (congrArg thrOf (hfa n h))
  generalize tab fa fT (16 * k0_t1_loop.trips) = ft at hft0
  have hft := hft0
  imod (Transfers.batch_alloc' (Lvl := ℕ) (countersEmb (U := UU)) (thr d L) (none : HIx 1) ((rowL 1).view.amount (SemLoc.dma (sig := sig) cc0_scratch7.sem)) (dIn d L 1 1 lab conf fl fc) (sm := .dma cc0_scratch7.sem) (E := Set.univ)) $$ Hs7 with HB7
  imod (Transfers.batch_alloc' (Lvl := ℕ) (countersEmb (U := UU)) (thr d L) (none : HIx 1) ((chO 0).view.amount (SemLoc.dma (sig := sig) cc0_scratch8.sem)) (dOut d L (local' L (gval conf lab acc)) fo) (sm := .dma cc0_scratch8.sem) (E := Set.univ)) $$ Hs8 with HB8
  sl_exec
  ihave Hl := (rowL_landed d L 0 0 _ lab) $$ HB6_dst0
  ihave Hc := (rowC_landed d L 0 0 _ conf) $$ HB6_dst1
  ihave Hr := (upto_zero d L 0 (local' L (gval conf lab acc)) fr) $$ Hr0
  sl_for (inv L d 0 0 (staged L 0 lab) (staged L 0 conf) ft (local' L (gval conf lab acc)) fr) $$ [Hl Hc HT Hr]
  case region =>
    intro k _
    exact wp_trip L d 0 0 k.val (k.isLt.trans_le k0_t2_abs.2.1) _ _ _ (k0_off3_eq k) (k0_off4_eq k) (k0_off5_eq k) _ _ _ _ _ _ _ _
      (fun n hn => (hlab _).trans (by decide)) (fun n hn y hy => res_eq L 0 0 conf lab acc ft hft hlab n hn y hy _) _
  · unfold inv
    isplitl [Hl]; · iexact Hl
    isplitl [Hc]; · iexact Hc
    isplitl [HT]; · iexact HT
    iexact Hr
  iintro %_ HI
  unfold inv
  icases HI with ⟨Hl0, Hc0, HT, Hr0⟩
  ihave Hr0 := (upto_all d L 0 _ fr k0_t2_loop.trips (by decide +kernel)) $$ Hr0
  ihave Hs6 := (sem6_back d L) $$ HB6
  imod (Transfers.batch_alloc' (Lvl := ℕ) (countersEmb (U := UU)) (thr d L) (none : HIx 1) ((rowL 0).view.amount (SemLoc.dma (sig := sig) cc0_scratch6.sem)) (dIn d L 2 0 lab conf (staged L 0 lab) (staged L 0 conf)) (sm := .dma cc0_scratch6.sem) (E := Set.univ)) $$ Hs6 with HB6
  sl_exec
  ihave Hl := (rowL_landed d L 1 1 _ lab) $$ HB7_dst0
  ihave Hc := (rowC_landed d L 1 1 _ conf) $$ HB7_dst1
  ihave Hr := (upto_zero d L 1 (local' L (gval conf lab acc)) fr) $$ Hr1
  sl_for (inv L d 1 1 (staged L 1 lab) (staged L 1 conf) ft (local' L (gval conf lab acc)) fr) $$ [Hl Hc HT Hr]
  case region =>
    intro k _
    exact wp_trip L d 1 1 k.val (k.isLt.trans_le k0_t3_abs.2.1) _ _ _ (k0_off6_eq k) (k0_off7_eq k) (k0_off8_eq k) _ _ _ _ _ _ _ _
      (fun n hn => (hlab _).trans (by decide)) (fun n hn y hy => res_eq L 1 1 conf lab acc ft hft hlab n hn y hy _) _
  · unfold inv
    isplitl [Hl]; · iexact Hl
    isplitl [Hc]; · iexact Hc
    isplitl [HT]; · iexact HT
    iexact Hr
  iintro %_ HI
  unfold inv
  icases HI with ⟨Hl1, Hc1, HT, Hr1⟩
  ihave Hr1 := (upto_all d L 1 _ fr k0_t3_loop.trips (by decide +kernel)) $$ Hr1
  ihave Hs7 := (sem7_back d L) $$ HB7
  imod (Transfers.batch_alloc' (Lvl := ℕ) (countersEmb (U := UU)) (thr d L) (none : HIx 1) ((rowL 1).view.amount (SemLoc.dma (sig := sig) cc0_scratch7.sem)) (dIn d L 3 1 lab conf (staged L 1 lab) (staged L 1 conf)) (sm := .dma cc0_scratch7.sem) (E := Set.univ)) $$ Hs7 with HB7
  sl_exec
  ihave Hl := (rowL_landed d L 2 0 _ lab) $$ HB6_dst0
  ihave Hc := (rowC_landed d L 2 0 _ conf) $$ HB6_dst1
  ihave Hr := (upto_zero d L 2 (local' L (gval conf lab acc)) fr) $$ Hr2
  sl_for (inv L d 0 2 (staged L 2 lab) (staged L 2 conf) ft (local' L (gval conf lab acc)) fr) $$ [Hl Hc HT Hr]
  case region =>
    intro k _
    exact wp_trip L d 0 2 k.val (k.isLt.trans_le k0_t4_abs.2.1) _ _ _ (k0_off9_eq k) (k0_off10_eq k) (k0_off11_eq k) _ _ _ _ _ _ _ _
      (fun n hn => (hlab _).trans (by decide)) (fun n hn y hy => res_eq L 2 0 conf lab acc ft hft hlab n hn y hy _) _
  · unfold inv
    isplitl [Hl]; · iexact Hl
    isplitl [Hc]; · iexact Hc
    isplitl [HT]; · iexact HT
    iexact Hr
  iintro %_ HI
  unfold inv
  icases HI with ⟨Hl0, Hc0, HT, Hr2⟩
  ihave Hr2 := (upto_all d L 2 _ fr k0_t4_loop.trips (by decide +kernel)) $$ Hr2
  sl_exec
  ihave Hl := (rowL_landed d L 3 1 _ lab) $$ HB7_dst0
  ihave Hc := (rowC_landed d L 3 1 _ conf) $$ HB7_dst1
  ihave Hr := (upto_zero d L 3 (local' L (gval conf lab acc)) fr) $$ Hr3
  sl_for (inv L d 1 3 (staged L 3 lab) (staged L 3 conf) ft (local' L (gval conf lab acc)) fr) $$ [Hl Hc HT Hr]
  case region =>
    intro k _
    exact wp_trip L d 1 3 k.val (k.isLt.trans_le k0_t5_abs.2.1) _ _ _ (k0_off12_eq k) (k0_off13_eq k) (k0_off14_eq k) _ _ _ _ _ _ _ _
      (fun n hn => (hlab _).trans (by decide)) (fun n hn y hy => res_eq L 3 1 conf lab acc ft hft hlab n hn y hy _) _
  · unfold inv
    isplitl [Hl]; · iexact Hl
    isplitl [Hc]; · iexact Hc
    isplitl [HT]; · iexact HT
    iexact Hr
  iintro %_ HI
  unfold inv
  icases HI with ⟨Hl1, Hc1, HT, Hr3⟩
  ihave Hr3 := (upto_all d L 3 _ fr k0_t5_loop.trips (by decide +kernel)) $$ Hr3
  sl_exec
  rw [wp_ret]; imodintro
  isplitl [HB6_src0 HB7_src0 HB6_src0_2 HB7_src0_2]
  · isplitl [HB6_src0]; · iexact HB6_src0
    isplitl [HB7_src0]; · iexact HB7_src0
    isplitl [HB6_src0_2]; · iexact HB6_src0_2
    iexact HB7_src0_2
  isplitl [HB6_src1 HB7_src1 HB6_src1_2 HB7_src1_2]
  · isplitl [HB6_src1]; · iexact HB6_src1
    isplitl [HB7_src1]; · iexact HB7_src1
    isplitl [HB6_src1_2]; · iexact HB6_src1_2
    iexact HB7_src1_2
  isplitl [HB8_dst0 HB8_dst1 HB8_dst2 HB8_dst3]
  · isplitl [HB8_dst0]; · iapply (out_landed d L 0 fo (gval conf lab acc)); iexact HB8_dst0
    isplitl [HB8_dst1]; · iapply (out_landed d L 1 fo (gval conf lab acc)); iexact HB8_dst1
    isplitl [HB8_dst2]; · iapply (out_landed d L 2 fo (gval conf lab acc)); iexact HB8_dst2
    iapply (out_landed d L 3 fo (gval conf lab acc)); iexact HB8_dst3
  isplitl [Ha]; · iexact Ha
  isplitl [HA HT Hl0 Hl1 Hc0 Hc1 HB8_src0 HB8_src1 HB8_src2 HB8_src3]
  · isplitl [HA]; · iexists _; iexact HA
    isplitl [HT]; · iexists _; iexact HT
    isplitl [Hl0 Hl1]
    · iapply (rowsL_join d L); isplitl [Hl0]; · iexact Hl0
      iexact Hl1
    isplitl [Hc0 Hc1]
    · iapply (rowsC_join d L); isplitl [Hc0]; · iexact Hc0
      iexact Hc1
    iexists (local' L (gval conf lab acc))
    iapply (Entails.of_eq (sO_chunks d L _).symm)
    isplitl [HB8_src0]; · iexact HB8_src0
    isplitl [HB8_src1]; · iexact HB8_src1
    isplitl [HB8_src2]; · iexact HB8_src2
    iexact HB8_src3
  isplitl [Hs5 HB6 HB7 HB8]
  · isplitl [Hs5]; · iexact Hs5
    isplitl [HB6]; · iexact HB6
    isplitl [HB7]; · iexact HB7
    iexact HB8
  iexists _; isplitr
  swap; · iexact HO
  ipureintro
  intro p hp
  simp only [Finset.mem_insert] at hp
  obtain h | h | h | h | h | h | h | h | h | h | h | h | h | h := hp
  all_goals first
    | exact .inl h
    | exact .inr (h ▸ rfl)

end Cert.Proof.Mask

end
-- ==== Proof.Launch.lean ====
/-
  The launch: how the arrays divide among the 32 subcores, each subcore's obligation, @main on the TensorCore, and the
  run of the whole program: it ends with the mask in the result, the arguments unchanged and every counter at zero.
-/
module

public import proofs.«01_k».proof.Proof.Tile

@[expose] public section

noncomputable section

namespace Cert.Proof.Mask

open Cert.KernelIdeal Cert.KernelIdeal.Gen

open Idealize.ShloMosaic
open Idealize.ShloMosaic.Tactic
open Idealize.ShloMosaic.SparseCore (S V T)
open Idealize.ShloMosaic.SparseCore.Cfg (HIx Pay mem_ownCells ownRefs ownCells ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-- The subcore at core `c` and place `i`. -/
def tileOf (c : Fin 2) (i : Fin 16) : grid0.Coords :=
  fun | 0 => c | 1 => i | ⟨_ + 2, h⟩ => absurd h (Nat.not_lt.2 (Nat.le_add_left _ _))

theorem base_tileOf (c : Fin 2) (i : Fin 16) : base (tileOf c i) = 65536 * i.val + 32768 * c.val := rfl

/-! ## A subcore's own semaphores and buffers -/

/-- The members of a list apart, the rest of a set beside them. -/
theorem bigSep_take {α : Type} [DecidableEq α] (Φ : α → sProp 𝕄) (l : List α) (s : Finset α) (hn : l.Nodup) (hs : ∀ x ∈ l, x ∈ s) :
    bigSep s Φ = l.foldr (fun x P => iprop(Φ x ∗ P)) (bigSep (l.foldl Finset.erase s) Φ) := by
  induction l generalizing s with
  | nil => rfl
  | cons a l ih =>
    rw [SparseCore.bigSep_erase' (hs a List.mem_cons_self), ih (s.erase a) (List.nodup_cons.mp hn).2 fun x hx =>
      Finset.mem_erase.mpr ⟨fun e => (List.nodup_cons.mp hn).1 (e ▸ hx), hs x (List.mem_cons_of_mem _ hx)⟩]
    rfl

variable (d : Dev nD) (L : grid0.Coords)

/-- The four semaphores of the task, of its thread's. -/
abbrev mySems : List (GSem nD τ sig) :=
  ([SemLoc.dma cc0_scratch5.sem, SemLoc.dma cc0_scratch6.sem, SemLoc.dma cc0_scratch7.sem, SemLoc.dma cc0_scratch8.sem] : List (SemLoc sig)).map fun s => (thr d L, s)
/-- The five buffers of the task, of its processor's. -/
abbrev myRefs : List (DevRef τ sig) :=
  ([cc0_scratch0, cc0_scratch1, cc0_scratch2, cc0_scratch3, cc0_scratch4] : List (Ref sig .scVector)).map (Proc.scVector (cV L) (jV L)).devRef

theorem ownSems0_V : (ownSems0 (thr d L) : sProp 𝕄)
    = iprop(semVal (thr d L, SemLoc.dma cc0_scratch5.sem) 0 ∗ semVal (thr d L, SemLoc.dma cc0_scratch6.sem) 0
        ∗ semVal (thr d L, SemLoc.dma cc0_scratch7.sem) 0 ∗ semVal (thr d L, SemLoc.dma cc0_scratch8.sem) 0
        ∗ bigSep ((mySems d L).foldl Finset.erase (ownCells (thr d L))) fun g => semVal g 0) := by
  refine bigSep_take (fun g => semVal g 0) (mySems d L) (ownCells (thr d L)) (List.Nodup.map (fun a b e => (Prod.mk.inj e).2) (by decide)) fun g hg => ?_
  obtain ⟨s, hs, rfl⟩ := List.mem_map.mp hg
  have h : ∀ s ∈ ([SemLoc.dma cc0_scratch5.sem, SemLoc.dma cc0_scratch6.sem, SemLoc.dma cc0_scratch7.sem, SemLoc.dma cc0_scratch8.sem] : List (SemLoc sig)),
      s.isScoped .scVector = true := by decide
  exact mem_ownCells.mpr ⟨rfl, h s hs⟩

theorem ownBufs_V : (ownBufs (thr d L) : sProp 𝕄)
    = iprop((∃ f, (thr d L).loc cc0_scratch0 ↦{fullShare} f) ∗ (∃ f, (thr d L).loc cc0_scratch1 ↦{fullShare} f)
        ∗ (∃ f, (thr d L).loc cc0_scratch2 ↦{fullShare} f) ∗ (∃ f, (thr d L).loc cc0_scratch3 ↦{fullShare} f) ∗ (∃ f, (thr d L).loc cc0_scratch4 ↦{fullShare} f)
        ∗ bigSep ((myRefs L).foldl Finset.erase (ownRefs (τ := τ) (.scVector (cV L) (jV L)))) fun b => iprop(∃ f, ((d, b) : Loc nD τ sig) ↦{fullShare} f)) := by
  refine bigSep_take (fun b => iprop(∃ f, ((d, b) : Loc nD τ sig) ↦{fullShare} f)) (myRefs L) (ownRefs (τ := τ) (.scVector (cV L) (jV L)))
    (List.Nodup.map (Proc.devRef_injective _) (show ([cc0_scratch0, cc0_scratch1, cc0_scratch2, cc0_scratch3, cc0_scratch4] : List (Ref sig .scVector)).Nodup by decide)) fun b hb => ?_
  simp only [myRefs, List.map_cons, List.map_nil, List.mem_cons, List.not_mem_nil, _root_.or_false] at hb
  obtain h | h | h | h | h := hb <;> exact SparseCore.Cfg.mem_ownRefs_of_owner (by rw [h]; rfl)

/-- The class accuracies as a subcore addresses them. -/
theorem acc_pts (q : PosShare TreeShare) (f : S1000.Idx → F .f32) :
    (aLoc d ↦[Finset.univ]{q} f : sProp 𝕄) = ((Memref.whole main_arg2_scv).view.loc (thr d L) ↦[(Memref.whole main_arg2_scv).view.set]{q} f) := by
  simp only [Memref.view_whole, View.set_whole]

/-! ## What the handshakes carry -/

section Payload

variable (m : (ℓ : Loc nD τ sig) → Buf (Elt F) ℓ)

/-- The labels, confidences and accuracies of a launch memory, the result's first contents, and the mask. -/
abbrev labOf (d : Dev nD) : S1048576.Idx → BitVec 32 := m (lLoc d)
abbrev confOf (d : Dev nD) : S1048576.Idx → F .f32 := m (cLoc d)
abbrev accOf (d : Dev nD) : S1000.Idx → F .f32 := m (aLoc d)
abbrev outOf (d : Dev nD) : S1048576.Idx → F .f32 := m (oLoc d)
def maskOf (d : Dev nD) : S1048576.Idx → F .f32 := gval (confOf m d) (labOf m d) (accOf m d)

/-- Every label names a class. -/
def PreOK : Prop := ∀ d y, (labOf m d y).toNat < 1000

/-- The share of the class accuracies that a subcore reads through. -/
def shr (c : Fin 2) (i : Fin 16) : PosShare TreeShare :=
  Transfers.dealOf (Transfers.dealOf fullShare (Finset.univ : Finset (Fin 2)) c) (Finset.univ : Finset (Fin 16)) i

/-- What a subcore is given: its block's labels, confidences and places of the result, chunk by chunk, and its share of the accuracies. -/
def goP (d : Dev nD) (c : Fin 2) (i : Fin 16) (fo : S1048576.Idx → F .f32) : sProp 𝕄 :=
  iprop((bigSep Finset.univ fun r : Fin 4 => pHL d (tileOf c i) r (labOf m d)) ∗ (bigSep Finset.univ fun r : Fin 4 => pHC d (tileOf c i) r (confOf m d))
    ∗ (bigSep Finset.univ fun r : Fin 4 => pHO d (tileOf c i) r fo) ∗ (aLoc d ↦{shr c i} accOf m d))

instance goP_storable (d : Dev nD) (c : Fin 2) (i : Fin 16) (fo : S1048576.Idx → F .f32) : BI.Storable (upEmb : UEmb _ 𝕄) (goP m d c i fo) := by
  unfold goP; infer_instance

/-- The one call's payloads: each subcore's pieces go with the result's first contents and come back with the mask. -/
def P : (K (F := F)).Pay (nD := nD) (Val := Elt F) (Name := ℕ) (U := UU) where
  st := fun q d c => match q with | 0 => bigSep Finset.univ fun i : Fin 16 => goP m d c i (outOf m d)
  dn := fun q d c => match q with | 0 => bigSep Finset.univ fun i : Fin 16 => goP m d c i (maskOf m d)
  go := fun q d c i => match q with | 0 => goP m d c i (outOf m d)
  td := fun q d c i => match q with | 0 => goP m d c i (maskOf m d)
  x := fun _ _ => iprop(emp)

instance P_storable : (P (F := F) m).IsStorable where
  st q d c := match q with
    | 0 => (inferInstance : BI.Storable (upEmb : UEmb _ 𝕄) (bigSep Finset.univ fun i : Fin 16 => goP m d c i (outOf m d)))
  dn q d c := match q with
    | 0 => (inferInstance : BI.Storable (upEmb : UEmb _ 𝕄) (bigSep Finset.univ fun i : Fin 16 => goP m d c i (maskOf m d)))
  go q d c i := match q with
    | 0 => (inferInstance : BI.Storable (upEmb : UEmb _ 𝕄) (goP m d c i (outOf m d)))
  td q d c i := match q with
    | 0 => (inferInstance : BI.Storable (upEmb : UEmb _ 𝕄) (goP m d c i (maskOf m d)))

/-! ## A subcore's obligation -/

theorem tile_body (hF : (K (F := F)).Facts) (hpre : PreOK m) (c : Fin 2) (i : Fin 16) (O : CellTallies nD τ sig (HIx 1)) (W : Waits sig (HIx 1)) (hO : ∀ g, O g none = 0) :
    iprop(levAts (K (F := F)).L (K (F := F)).lev ∗ emp ∗ goP m d c i (outOf m d)
        ∗ scopedBufs (thr d (tileOf c i)) ∗ scopedSems0 (thr d (tileOf c i)) ∗ owes (thr d (tileOf c i)) O W)
      ⊢ wp frame (wpE defs₀ 𝒱₀ (thr d (tileOf c i)) none) Set.univ
          (cc0_body (tileOf c i) (Memref.whole main_arg0_scv) (Memref.isWhole_whole _) (Memref.whole main_arg1_scv) (Memref.isWhole_whole _) (Memref.whole main_arg2_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8)
          fun _ => (iprop(goP m d c i (maskOf m d) ∗ scopedBufs (thr d (tileOf c i)) ∗ scopedSems0 (thr d (tileOf c i))
            ∗ ∃ W', ⌜∀ p ∈ W', p ∈ W ∨ p.2 = none⌝ ∗ owes (thr d (tileOf c i)) O W') : sProp 𝕄) := by
  generalize hL : tileOf c i = L
  rw [(K (F := F)).scopedBufs_V hF d (cV L) (jV L), SparseCore.Cfg.scopedSems0_V (Val := Elt F) d (cV L) (jV L), ownSems0_V, ownBufs_V]
  unfold goP
  rw [hL]
  iterate 4 rw [Ring.bigSep_fin4]
  iintro ⟨Hlv, -, ⟨⟨HL0, HL1, HL2, HL3⟩, ⟨HC0, HC1, HC2, HC3⟩, ⟨HO0, HO1, HO2, HO3⟩, Ha⟩, ⟨⟨%fA, HA⟩, ⟨%fT, HT⟩, ⟨%fl, Hl⟩, ⟨%fc, Hc⟩, ⟨%fr, Hr⟩, Hbufs⟩, ⟨Hs5, Hs6, Hs7, Hs8, Hsems⟩, HO⟩
  ihave Hl := (sL_rows d L fl) $$ Hl
  icases Hl with ⟨Hl0, Hl1⟩
  ihave Hc := (sC_rows d L fc) $$ Hc
  icases Hc with ⟨Hc0, Hc1⟩
  ihave Hr := (Entails.of_eq (sO_chunks d L fr)) $$ Hr
  icases Hr with ⟨Hr0, Hr1, Hr2, Hr3⟩
  iapply (wp_wand_r frame _ Set.univ)
  isplitr [Hbufs Hsems]
  · iapply (wp_tile d L O hO W (shr c i) (labOf m d) (confOf m d) (accOf m d) (outOf m d) (hpre d) fA fT fl fc fr)
    isplitl [Hlv]; · iexact Hlv
    isplitl [HL0]; · iexact HL0
    isplitl [HL1]; · iexact HL1
    isplitl [HL2]; · iexact HL2
    isplitl [HL3]; · iexact HL3
    isplitl [HC0]; · iexact HC0
    isplitl [HC1]; · iexact HC1
    isplitl [HC2]; · iexact HC2
    isplitl [HC3]; · iexact HC3
    isplitl [HO0]; · iexact HO0
    isplitl [HO1]; · iexact HO1
    isplitl [HO2]; · iexact HO2
    isplitl [HO3]; · iexact HO3
    isplitl [Ha]; · iapply (Entails.of_eq (acc_pts d L (shr c i) (accOf m d))); iexact Ha
    isplitl [HA]; · iexact HA
    isplitl [HT]; · iexact HT
    isplitl [Hl0]; · iexact Hl0
    isplitl [Hl1]; · iexact Hl1
    isplitl [Hc0]; · iexact Hc0
    isplitl [Hc1]; · iexact Hc1
    isplitl [Hr0]; · iexact Hr0
    isplitl [Hr1]; · iexact Hr1
    isplitl [Hr2]; · iexact Hr2
    isplitl [Hr3]; · iexact Hr3
    isplitl [Hs5]; · iexact Hs5
    isplitl [Hs6]; · iexact Hs6
    isplitl [Hs7]; · iexact Hs7
    isplitl [Hs8]; · iexact Hs8
    iexact HO
  · iintro %_ ⟨HL, HC, HO, Ha, ⟨HA, HT, Hl, Hc, Hr⟩, ⟨Hs5, Hs6, Hs7, Hs8⟩, HW⟩
    isplitl [HL HC HO Ha]
    · isplitl [HL]; · iexact HL
      isplitl [HC]; · iexact HC
      isplitl [HO]; · iexact HO
      iapply (Entails.of_eq (acc_pts d L (shr c i) (accOf m d)).symm); iexact Ha
    isplitl [HA HT Hl Hc Hr Hbufs]
    · isplitl [HA]; · iexact HA
      isplitl [HT]; · iexact HT
      isplitl [Hl]; · iexact Hl
      isplitl [Hc]; · iexact Hc
      isplitl [Hr]; · iexact Hr
      iexact Hbufs
    isplitl [Hs5 Hs6 Hs7 Hs8 Hsems]
    · isplitl [Hs5]; · iexact Hs5
      isplitl [Hs6]; · iexact Hs6
      isplitl [Hs7]; · iexact Hs7
      isplitl [Hs8]; · iexact Hs8
      iexact Hsems
    iexact HW

/-- The waits a task records are its own, for the launch's record of them. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  simp only [defs₀, SparseCore.onTile, hc, and_self, ↓reduceDIte]
  exact (tile_body d m hF hpre c i O W hO).trans (wp_mono frame _ _ fun _ => obl_post)

theorem vecSplit : (K (F := F)).VecSplit' (P m) 0 := by
  intro d c
  show (bigSep Finset.univ fun i : Fin 16 => goP m d c i (outOf m d)) ⊢ |={Set.univ}=> iprop(
      (bigSep Finset.univ fun i : Fin 16 => goP m d c i (outOf m d))
      ∗ ((bigSep Finset.univ fun i : Fin 16 => goP m d c i (maskOf m d)) -∗ (bigSep Finset.univ fun i : Fin 16 => goP m d c i (maskOf m d))))
  iintro H; imodintro
  isplitl [H]; · iexact H
  iintro H; iexact H

/-! ## The arrays as the subcores' pieces -/

theorem blocks_disjoint : ∀ t ∈ (Finset.univ : Finset (Fin 2 × Fin 16 × Fin 4)), ∀ t' ∈ (Finset.univ : Finset (Fin 2 × Fin 16 × Fin 4)), t ≠ t' →
    Disjoint ((hL (tileOf t.1 t.2.1) t.2.2).view.set : Finset S1048576.Idx) (hL (tileOf t'.1 t'.2.1) t'.2.2).view.set := by
  rintro ⟨c, i, r⟩ - ⟨c', i', r'⟩ - hne
  refine Finset.disjoint_left.mpr fun y h h' => hne ?_
  have h := (mem_hL _ r y).mp h
  have h' := (mem_hL _ r' y).mp h'
  rw [base_tileOf] at h h'
  dsimp only at h h'
  have e1 : c = c' := Fin.ext (by omega)
  have e2 : i = i' := Fin.ext (by omega)
  have e3 : r = r' := Fin.ext (by omega)
  rw [e1, e2, e3]
theorem blocks_cover : ((Finset.univ : Finset (Fin 2 × Fin 16 × Fin 4)).biUnion (β := S1048576.Idx) fun t => (hL (tileOf t.1 t.2.1) t.2.2).view.set) = Finset.univ := by
  refine Finset.eq_univ_iff_forall.mpr fun y => Finset.mem_biUnion.mpr ?_
  have hy : (y 0).val < 1048576 := (y 0).isLt
  refine ⟨(⟨(y 0).val % 65536 / 32768, by omega⟩, ⟨(y 0).val / 65536, by omega⟩, ⟨(y 0).val % 32768 / 8192, by omega⟩), Finset.mem_univ _, (mem_hL _ _ y).mpr ?_⟩
  rw [base_tileOf]
  show 65536 * ((y 0).val / 65536) + 32768 * ((y 0).val % 65536 / 32768) + 8192 * ((y 0).val % 32768 / 8192) ≤ _
    ∧ _ < 65536 * ((y 0).val / 65536) + 32768 * ((y 0).val % 65536 / 32768) + 8192 * ((y 0).val % 32768 / 8192) + 8192
  omega

theorem lab_blocks (d : Dev nD) (f : S1048576.Idx → BitVec 32) : (lLoc d ↦[Finset.univ]{fullShare} f : sProp 𝕄)
    = bigSep Finset.univ fun c : Fin 2 => bigSep Finset.univ fun i : Fin 16 => bigSep Finset.univ fun r : Fin 4 => pHL d (tileOf c i) r f := by
  refine Eq.trans ?_ ((pointsTo_biUnion (ℓ := lLoc d) (q := fullShare) (f := f) Finset.univ (fun t : Fin 2 × Fin 16 × Fin 4 => (hL (tileOf t.1 t.2.1) t.2.2).view.set) blocks_disjoint).trans ?_)
  · exact congrArg (fun I => (lLoc d ↦[I]{fullShare} f : sProp 𝕄)) blocks_cover.symm
  · rw [bigSep_univ_prod]
    exact bigSep_congr fun c _ => bigSep_univ_prod _
theorem conf_blocks (d : Dev nD) (f : S1048576.Idx → F .f32) : (cLoc d ↦[Finset.univ]{fullShare} f : sProp 𝕄)
    = bigSep Finset.univ fun c : Fin 2 => bigSep Finset.univ fun i : Fin 16 => bigSep Finset.univ fun r : Fin 4 => pHC d (tileOf c i) r f := by
  refine Eq.trans ?_ ((pointsTo_biUnion (ℓ := cLoc d) (q := fullShare) (f := f) Finset.univ (fun t : Fin 2 × Fin 16 × Fin 4 => (hC (tileOf t.1 t.2.1) t.2.2).view.set) blocks_disjoint).trans ?_)
  · exact congrArg (fun I => (cLoc d ↦[I]{fullShare} f : sProp 𝕄)) blocks_cover.symm
  · rw [bigSep_univ_prod]
    exact bigSep_congr fun c _ => bigSep_univ_prod _
theorem out_blocks (d : Dev nD) (f : S1048576.Idx → F .f32) : (oLoc d ↦[Finset.univ]{fullShare} f : sProp 𝕄)
    = bigSep Finset.univ fun c : Fin 2 => bigSep Finset.univ fun i : Fin 16 => bigSep Finset.univ fun r : Fin 4 => pHO d (tileOf c i) r f := by
  refine Eq.trans ?_ ((pointsTo_biUnion (ℓ := oLoc d) (q := fullShare) (f := f) Finset.univ (fun t : Fin 2 × Fin 16 × Fin 4 => (hO (tileOf t.1 t.2.1) t.2.2).view.set) blocks_disjoint).trans ?_)
  · exact congrArg (fun I => (oLoc d ↦[I]{fullShare} f : sProp 𝕄)) blocks_cover.symm
  · rw [bigSep_univ_prod]
    exact bigSep_congr fun c _ => bigSep_univ_prod _
theorem acc_shares (d : Dev nD) (f : S1000.Idx → F .f32) : (aLoc d ↦[Finset.univ]{fullShare} f : sProp 𝕄)
    = bigSep Finset.univ fun c : Fin 2 => bigSep Finset.univ fun i : Fin 16 => (aLoc d ↦[Finset.univ]{shr c i} f) := by
  rw [Transfers.pointsTo_deal (ℓ := aLoc d) (Finset.univ : Finset (Fin 2)) ⟨0, Finset.mem_univ _⟩ fullShare]
  exact bigSep_congr fun c _ => Transfers.pointsTo_deal (ℓ := aLoc d) (Finset.univ : Finset (Fin 16)) ⟨0, Finset.mem_univ _⟩ _

/-- The four arrays whole, the result at `fo`. -/
abbrev arrays (d : Dev nD) (fo : S1048576.Idx → F .f32) : sProp 𝕄 :=
  iprop((lLoc d ↦[Finset.univ]{fullShare} labOf m d) ∗ (cLoc d ↦[Finset.univ]{fullShare} confOf m d) ∗ (oLoc d ↦[Finset.univ]{fullShare} fo)
    ∗ (aLoc d ↦[Finset.univ]{fullShare} accOf m d))
/-- They are the subcores' pieces. -/
theorem arrays_pieces (d : Dev nD) (fo : S1048576.Idx → F .f32) :
    arrays m d fo = bigSep Finset.univ fun c : Fin 2 => bigSep Finset.univ fun i : Fin 16 => goP m d c i fo := by
  unfold arrays goP
  rw [lab_blocks, conf_blocks, out_blocks, acc_shares]
  simp only [bigSep_sep']

end Payload

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ (m : (ℓ : Loc nD τ sig) → Buf (Elt F) ℓ) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun t : Thread nD τ => bigSep Finset.univ fun q : Fin 1 => (P m).x q t) = (iprop(emp) : sProp 𝕄) from
    (bigSep_congr fun _ _ => bigSep_emp' _).trans (bigSep_emp' _)]
  iempintro

/-! ## @main on the TensorCore, and the run -/

section Main

variable (m : (ℓ : Loc nD τ sig) → Buf (Elt F) ℓ) (ρ : Dev nD → PrngReg)

theorem unscopedBufs_eq (d : Dev nD) (W : (b : Ref sig .tc) → Buf (Elt F) ((d.tc : Thread nD τ).loc b)) :
    (unscopedBufs d W : sProp 𝕄) = iprop((cLoc d ↦{fullShare} W main_arg0) ∗ (lLoc d ↦{fullShare} W main_arg1) ∗ (aLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = arrays m d (outOf m d) :=
  (arrays_pieces m d (outOf m d)).symm
theorem dn0_eq (d : Dev nD) : (bigSep Finset.univ fun c : Fin ((K (F := F)).nCore 0) => (P m).dn 0 d c) = arrays m d (maskOf m d) :=
  (arrays_pieces m d (maskOf m d)).symm

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ arrays m d (maskOf m d) ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hc, Hl, Ha, Ho⟩, Hts, -⟩, -⟩
  iapply ((K (F := F)).wp_run (D (F := F)) 𝒱 (EH := EH) (P := P m) κ d 0) $$ [Hst Hc Hl Ha Ho Hb Hts]
  isplitr; · iexact Hctx
  isplitl [Hst]; · iexact Hst
  isplitl [Hc Hl Ha Ho]
  · rw [st0_eq]
    isplitl [Hl]; · iexact Hl
    isplitl [Hc]; · iexact Hc
    isplitl [Ho]; · iexact Ho
    iexact Ha
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What a device's memory holds at the end: the arguments as they were, the result at the mask. -/
def fq (d : Dev nD) (s' : Phys nD τ sig (Elt F)) : Prop :=
  s'.mem.mem (lLoc d) = m (lLoc d) ∧ s'.mem.mem (cLoc d) = m (cLoc d) ∧ s'.mem.mem (oLoc d) = maskOf m d ∧ s'.mem.mem (aLoc d) = m (aLoc d)

theorem hfin (d : Dev nD) (s' : Phys nD τ sig (Elt F)) : iprop(arrays m d (maskOf m d) ∗ SI s') ⊢ (⌜fq m d s'⌝ : sProp 𝕄) := by
  iintro ⟨⟨Hl, Hc, Ho, Ha⟩, HSI⟩
  ihave H := (persistent_entails_right (SI_pointsTo_agree (st := s') (ℓ := lLoc d) (I := Finset.univ) (q := fullShare) (f := labOf m d))) $$ [HSI Hl]
  · isplitl [HSI] <;> iassumption
  icases H with ⟨%h1, HSI, -⟩
  ihave H := (persistent_entails_right (SI_pointsTo_agree (st := s') (ℓ := cLoc d) (I := Finset.univ) (q := fullShare) (f := confOf m d))) $$ [HSI Hc]
  · isplitl [HSI] <;> iassumption
  icases H with ⟨%h2, HSI, -⟩
  ihave H := (persistent_entails_right (SI_pointsTo_agree (st := s') (ℓ := oLoc d) (I := Finset.univ) (q := fullShare) (f := maskOf m d))) $$ [HSI Ho]
  · isplitl [HSI] <;> iassumption
  icases H with ⟨%h3, HSI, -⟩
  ihave H := (SI_pointsTo_agree (st := s') (ℓ := aLoc d) (I := Finset.univ) (q := fullShare) (f := accOf m d)) $$ [HSI Ha]
  · isplitl [HSI] <;> iassumption
  icases H with %h4
  ipureintro
  exact ⟨funext fun i => h1 i (Finset.mem_univ i), funext fun i => h2 i (Finset.mem_univ i), funext fun i => h3 i (Finset.mem_univ i), funext fun i => h4 i (Finset.mem_univ i)⟩

/-- What the program ends at. -/
def QC : PUnit × MemSt nD τ sig (Elt F) → Prop := fun r =>
  (∀ d : Dev nD, r.2.mem (lLoc d) = m (lLoc d) ∧ r.2.mem (cLoc d) = m (cLoc d) ∧ r.2.mem (oLoc d) = maskOf m d ∧ r.2.mem (aLoc d) = m (aLoc d)) ∧ r.2.sem = fun _ => 0

/-- The program's run, over any float values: where every label names a class, it ends with the mask in the result, the
    arguments as they were and every counter at zero. -/
theorem run_main (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => arrays m d (maskOf m d)) (u₀ (F := F)) (sep_elim_left.trans (hu₀ m)) (hmain m ρ) (fq m) (hfin m) (QC m) (fun _ h hz => ⟨h, hz⟩)

end Main

end Cert.Proof.Mask

end
-- ==== Proof.Values.lean ====
/-
  The values: what the precondition says of the labels, and what the reference computes. With every label below 1000
  the reference's lookup wraps nothing and fills nothing in, so it reads the accuracy of the element's own class; the
  reference's result is then, at the reals, the mask the kernel leaves.
-/
module

public import proofs.«01_k».proof.Proof.Setup
public import proofs.«01_k».proof.Proof.Gen.ReferenceIdeal
public import proofs.«01_k».proof.Proof.Gen.ReferenceIdeal.Run
public import proofs.«01_k».proof.Proof.Gen.Pre_labels_in_range
public import Idealize.ShloMosaic.Lib.ReduceAll
public import Idealize.ShloMosaic.Lib.Pipeline.Value

@[expose] public section

noncomputable section

namespace Cert.Proof.Mask

open Idealize.ShloMosaic

/-! ## Signed comparisons of a label with small constants -/

/-- A word that is signed at least 0 and below 1000 is a number below 1000. -/
theorem lt_of_range (v : BitVec 32) (e : IntOp.andi (IntOp.cmpi .sge v 0#32) (IntOp.cmpi .slt v 1000#32) = 1#1) : v.toNat < 1000 := by
  obtain ⟨h0, h1⟩ := IntOp.andi_eq_one.1 e
  have of_bool : ∀ p : Bool, BitVec.ofBool p = 1#1 → p = true := by decide
  have a := of_bool _ h0
  have b := of_bool _ h1
  simp only [BitVec.sle_eq_decide, BitVec.slt_eq_decide, decide_eq_true_eq, BitVec.toInt_eq_toNat_cond, BitVec.toNat_ofNat,
    Nat.reducePow, Nat.reduceMod] at a b
  omega

theorem toInt_small (v : BitVec 32) (h : v.toNat < 1000) : v.toInt = v.toNat := by
  rw [BitVec.toInt_eq_toNat_cond]
  omega

/-- A number below 1000 is not negative, at least 0 and at most 999 as a signed word. -/
theorem small_cmp (v : BitVec 32) (h : v.toNat < 1000) :
    IntOp.cmpi .slt v 0#32 = 0#1 ∧ IntOp.cmpi .sge v 0#32 = 1#1 ∧ IntOp.cmpi .sle v 999#32 = 1#1 := by
  have e := toInt_small v h
  have h0 : (0#32 : BitVec 32).toInt = 0 := rfl
  have h9 : (999#32 : BitVec 32).toInt = 999 := rfl
  refine ⟨?_, ?_, ?_⟩
  · show BitVec.ofBool (v.slt 0#32) = 0#1
    rw [BitVec.slt_eq_decide, decide_eq_false (by omega)]; rfl
  · show BitVec.ofBool ((0#32 : BitVec 32).sle v) = 1#1
    rw [BitVec.sle_eq_decide, decide_eq_true (by omega)]; rfl
  · show BitVec.ofBool (v.sle 999#32) = 1#1
    rw [BitVec.sle_eq_decide, decide_eq_true (by omega)]; rfl

/-! ## The precondition -/

/-- The precondition holding, every label is below 1000. -/
theorem labels_lt {F : FTy → Type} [FloatOps F] (conf : FVec F Cert.Pre_labels_in_range.S1048576 .f32)
    (lab : IVec Cert.Pre_labels_in_range.S1048576 32) (acc : FVec F Cert.Pre_labels_in_range.S1000 .f32)
    (h : Cert.Pre_labels_in_range.fn conf lab acc = fun _ => 1#1) (y : Cert.Pre_labels_in_range.S1048576.Idx) : (lab y).toNat < 1000 := by
  haveI : Subsingleton Cert.Pre_labels_in_range.S_.Idx := ⟨fun a b => funext fun i => i.elim0⟩
  exact lt_of_range _ (Host.reduce_andi_all _ _ _ _ _ (congrFun h fun i => i.elim0) y)

/-! ## The reference's lookup -/

section Ref

open Cert.ReferenceIdeal Cert.ReferenceIdeal.Facts₀ Cert.ReferenceIdeal.Facts

variable {F : FTy → Type} [FloatOps F]

/-- The labels as the reference looks them up: a negative one counted from the end. -/
def wrapped (lab : IVec S1048576 32) : IVec S1048576x1 32 :=
  broadcastInDim S1048576x1 ![0] bcast_S1048576_S1048576x1_0 (select (cmpi .slt lab (broadcastInDim S1048576 ![] bcast_S_S1048576 (constantI S_ 32 0#32))) (addi lab (broadcastInDim S1048576 ![] bcast_S_S1048576 (constantI S_ 32 1000#32))) lab)

/-- The accuracies the reference looks up: where the label is outside the table, a fill value. -/
def taken (lab : IVec S1048576 32) (acc : FVec F S1000 .f32) : FVec F S1048576 .f32 :=
  select (Host.reduce IntOp.andi (andi (cmpi .sge (wrapped lab) (broadcastInDim S1048576x1 ![] bcast_S_S1048576x1 (constantI S_ 32 0#32))) (cmpi .sle (wrapped lab) (broadcastInDim S1048576x1 ![0, 1] bcast_S1x1_S1048576x1_0_1 (broadcastInDim S1x1 ![1] bcast_S1_S1x1_1 (constantI S1 32 999#32))))) (constantI S_ 1 1#1) reducesTo_S1048576x1_S1048576_d1 h_S_)
    (Host.gather gather_S1000_S1048576x1_S1048576_n_0_n_n_0_1_1 acc (wrapped lab)) (broadcastInDim S1048576 ![] bcast_S_S1048576 (constant S_ .f32 0x7FC00000#32))

/-- The reference's result. -/
def refOut (conf : FVec F S1048576 .f32) (lab : IVec S1048576 32) (acc : FVec F S1000 .f32) : FVec F S1048576 .f32 :=
  uitofp .f32 (cmpf .oge conf (mulf (broadcastInDim S1048576 ![] bcast_S_S1048576 (constant S_ .f32 0x3F733333#32)) (Host.divf (taken lab acc) (subf (broadcastInDim S1048576 ![] bcast_S_S1048576 (constant S_ .f32 0x40000000#32)) (taken lab acc)))))

variable (lab : IVec S1048576 32) (hlab : ∀ y, (lab y).toNat < 1000)
include hlab

/-- No label is negative, so none wraps. -/
theorem wrapped_apply (z : S1048576x1.Idx) : wrapped lab z = lab (i1 (z 0).val (z 0).isLt) := by
  refine (broadcastInDim_apply _ _ _ z (i1 (z 0).val (z 0).isLt) fun a => ?_).trans ?_
  · rw [Subsingleton.elim a 0]; exact (if_neg (show ¬(1048576 : ℕ) = 1 by decide)).symm
  · show Scalar.select (IntOp.cmpi .slt (lab (i1 (z 0).val (z 0).isLt)) 0#32) _ (lab (i1 (z 0).val (z 0).isLt)) = _
    rw [(small_cmp _ (hlab _)).1]
    rfl

/-- The lookup reads the accuracy of the element's own class. -/
theorem gather_apply (acc : FVec F S1000 .f32) (y : S1048576.Idx) :
    Host.gather gather_S1000_S1048576x1_S1048576_n_0_n_n_0_1_1 acc (wrapped lab) y = acc (i1 (lab y).toNat (hlab y)) := by
  have hk : (0 : Fin S1000.rank) ∈ gather_S1000_S1048576x1_S1048576_n_0_n_n_0_1_1.startIndexMap := List.mem_singleton.mpr rfl
  have hst : gather_S1000_S1048576x1_S1048576_n_0_n_n_0_1_1.start y (wrapped lab) 0 = (lab y).toNat := by
    rw [GatherDims.start, dif_pos hk, wrapped_apply lab hlab]
    have hy : lab (i1 _ (gather_S1000_S1048576x1_S1048576_n_0_n_n_0_1_1.siIdx y ⟨_, List.idxOf_lt_length_iff.2 hk⟩ 0).isLt) = lab y :=
      congrArg lab (i1_ext rfl)
    rw [hy, toInt_small _ (hlab y)]
    exact min_eq_left (Nat.le_of_lt_succ (hlab y))
  refine congrArg acc (i1_ext ?_)
  show gather_S1000_S1048576x1_S1048576_n_0_n_n_0_1_1.start y (wrapped lab) 0 + gather_S1000_S1048576x1_S1048576_n_0_n_n_0_1_1.batchCoord y 0
    + gather_S1000_S1048576x1_S1048576_n_0_n_n_0_1_1.offCoord y 0 = (lab y).toNat
  rw [hst, GatherDims.batchCoord_eq_zero _ _ _ List.not_mem_nil,
    GatherDims.offCoord_eq_zero _ _ _ fun h => ((GatherDims.mem_sKept _ _).mp h).1 (List.mem_singleton.mpr rfl), Nat.add_zero]

/-- Every label lies in the table, so nothing is filled in. -/
theorem taken_apply (acc : FVec F S1000 .f32) (y : S1048576.Idx) : taken lab acc y = acc (i1 (lab y).toNat (hlab y)) := by
  have e := Host.reduce_andi_one (andi (cmpi .sge (wrapped lab) (broadcastInDim S1048576x1 ![] bcast_S_S1048576x1 (constantI S_ 32 0#32)))
      (cmpi .sle (wrapped lab) (broadcastInDim S1048576x1 ![0, 1] bcast_S1x1_S1048576x1_0_1 (broadcastInDim S1x1 ![1] bcast_S1_S1x1_1 (constantI S1 32 999#32)))))
    (constantI S_ 1 1#1) reducesTo_S1048576x1_S1048576_d1 h_S_ y rfl fun z => by
      show IntOp.andi (IntOp.cmpi .sge (wrapped lab z) 0#32) (IntOp.cmpi .sle (wrapped lab z) 999#32) = 1#1
      rw [wrapped_apply lab hlab]
      exact IntOp.andi_eq_one.2 (small_cmp _ (hlab _)).2
  rw [← gather_apply lab hlab acc y]
  simp only [taken, select]
  rw [e]
  exact if_pos rfl

/-- At the reals, the reference's result is the mask. -/
theorem refOut_eq (conf : FVec Ideal S1048576 .f32) (acc : FVec Ideal S1000 .f32) : refOut conf lab acc = gval conf lab acc := by
  have one : Ideal.ofBits .f32 0x3F800000#32 = 1 := by simp [Ideal.ofBits, Ideal.ieee, -EReal.coe_mul]; norm_num
  have zero : Ideal.ofBits .f32 0x00000000#32 = 0 := by simp [Ideal.ofBits, Ideal.ieee]
  have bit : ∀ b : BitVec 1, (FloatOps.uitofp .f32 b : Ideal .f32)
      = Scalar.select b (FloatOps.ofBits .f32 0x3F800000#32) (FloatOps.ofBits .f32 0x00000000#32) := by
    intro b
    rw [Ideal.ofBits_def, Ideal.ofBits_def, one, zero]
    rcases BitVec.eq_zero_or_eq_one b with rfl | rfl
    · exact congrArg (Real.toEReal) Nat.cast_zero
    · exact congrArg (Real.toEReal) Nat.cast_one
  funext y
  have ha : accAt acc (lab y) = acc (i1 (lab y).toNat (hlab y)) := dif_pos (hlab y)
  show (FloatOps.uitofp .f32 (FloatOps.cmpf .oge (conf y) (FloatOps.mulf (FloatOps.ofBits .f32 0x3F733333#32)
    (FloatOps.hostDivf (taken lab acc y) (FloatOps.subf (FloatOps.ofBits .f32 0x40000000#32) (taken lab acc y))))) : Ideal .f32) = _
  rw [taken_apply lab hlab, bit, ← ha]
  rfl

end Ref

end Cert.Proof.Mask

end
-- ==== Proof.lean ====
/-
  The proof of `Cert.Claim` (proofs.«01_k».proof.Defs): the kernel and its idealization run and leave their arguments and
  the counters as they found them, so does the reference, and at the reals the kernel's mask is the reference's.
  The kernel's run, at any float instance, is `Mask.run_main` (Proof/Launch.lean); the values are in Proof/Values.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_labels_in_range
public import proofs.«01_k».proof.Proof.Launch
public import proofs.«01_k».proof.Proof.Values
public import Idealize.ShloMosaic.Adequacy
public import Idealize.ShloMosaic.Init

@[expose] public section

noncomputable section

namespace Cert.Proof

open Idealize.ShloMosaic Idealize.SL.Sem

/-- The kernel's run, the program's own text being its idealization's. -/
theorem frame_p : Cert.quiescent_Kernel := fun m ρ hpre =>
  (θ_run Cert.KernelIdeal.defs _ _).mono (fun _ h => ⟨fun c => ⟨(h.1 c).2.1, (h.1 c).1, (h.1 c).2.2.2⟩, h.2⟩)
    (Mask.run_main (F := Bits) m ρ fun d => Mask.labels_lt _ _ _ (hpre d))

theorem pre_ok (m : (ℓ : Loc Cert.KernelIdeal.nD Cert.KernelIdeal.τ Cert.KernelIdeal.sig) → Buf (Elt Ideal) ℓ)
    (h : Cert.Pre_KernelIdeal m) : Mask.PreOK (F := Ideal) m := fun d => Mask.labels_lt _ _ _ (h d)

theorem frame_pi : Cert.quiescent_KernelIdeal := fun m ρ hpre =>
  (θ_run Cert.KernelIdeal.defs _ _).mono (fun _ h => ⟨fun c => ⟨(h.1 c).2.1, (h.1 c).1, (h.1 c).2.2.2⟩, h.2⟩)
    (Mask.run_main (F := Ideal) m ρ (pre_ok m hpre))

/-- The reference's run: it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_labels_in_range := fun m ρ _ => frame_ri m ρ trivial

/-- The shared value is the mask of the kernel's launch memory. -/
theorem algebraic : Cert.algebraic_KernelIdeal_ReferenceIdeal := by
  intro m ρ m' ρ' hpre hagree
  refine ⟨fun c => Mask.maskOf m c, (θ_run Cert.KernelIdeal.defs _ _).mono
    (fun _ h c => ⟨(h.1 c).2.2.1, (h.1 c).2.1, (h.1 c).1, (h.1 c).2.2.2⟩) (Mask.run_main (F := Ideal) m ρ (pre_ok m hpre)),
    (θ_run Cert.ReferenceIdeal.defs _ _).mono (fun _ h c => ⟨(h c).1.trans ?_, (h c).2⟩)
      (Cert.ReferenceIdeal.Value.run (F := Ideal) m' ρ')⟩
  rw [(hagree c).1, (hagree c).2.1, (hagree c).2.2]
  exact Mask.refOut_eq _ (pre_ok m hpre c) _ _

/-- Every claim the certificate makes. -/
theorem claim : Cert.Claim := ⟨Cert.Kernel.Gen.facts, Cert.KernelIdeal.Gen.facts, Cert.ReferenceIdeal.Gen.facts, Cert.Pre_labels_in_range.Gen.facts,
  frame_p, frame_pi, frame_ri, frame_ri_pre, trivial, algebraic⟩

end Cert.Proof

end
